-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_unfloored [hPre_unfloored : Cert.Pre_unfloored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unfloored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelFloored (m : (ℓ : Loc Cert.KernelFloored.nD Cert.KernelFloored.τ Cert.KernelFloored.sig) → Buf (Elt Ideal) ℓ) : Prop :=
  True

def Pre_KernelFloored_unfloored [hPre_unfloored : Cert.Pre_unfloored.Facts] (m : (ℓ : Loc Cert.KernelFloored.nD Cert.KernelFloored.τ Cert.KernelFloored.sig) → Buf (Elt Ideal) ℓ) : Prop :=
  ∀ c : Dev Cert.KernelFloored.nD,
    (Cert.Pre_unfloored.fn (F := Ideal) (m ((c.tc : Thread Cert.KernelFloored.nD Cert.KernelFloored.τ).loc Cert.KernelFloored.main_arg0)) (m ((c.tc : Thread Cert.KernelFloored.nD Cert.KernelFloored.τ).loc Cert.KernelFloored.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unfloored [hReferenceIdeal : Cert.ReferenceIdeal.Facts] [hPre_unfloored : Cert.Pre_unfloored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unfloored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFloored [hKernelFloored : Cert.KernelFloored.Facts] : Prop :=
  ∀ (m : (ℓ : Loc Cert.KernelFloored.nD Cert.KernelFloored.τ Cert.KernelFloored.sig) → Buf (Elt Ideal) ℓ) (g : Dev Cert.KernelFloored.nD → PrngReg), Pre_KernelFloored m →
    θ_run (Cert.KernelFloored.defs (F := Ideal)) (onTc (τ := Cert.KernelFloored.τ) (Cert.KernelFloored.main (F := Ideal))) ⟨m, fun _ => 0, g⟩ (fun r => (∀ c : Dev Cert.KernelFloored.nD,
      r.2.mem ((c.tc : Thread Cert.KernelFloored.nD Cert.KernelFloored.τ).loc Cert.KernelFloored.main_arg0) = m ((c.tc : Thread Cert.KernelFloored.nD Cert.KernelFloored.τ).loc Cert.KernelFloored.main_arg0)
      ∧ r.2.mem ((c.tc : Thread Cert.KernelFloored.nD Cert.KernelFloored.τ).loc Cert.KernelFloored.main_arg1) = m ((c.tc : Thread Cert.KernelFloored.nD Cert.KernelFloored.τ).loc Cert.KernelFloored.main_arg1))
      ∧ r.2.sem = fun _ => 0)

def quiescent_KernelFloored_pre_unfloored [hKernelFloored : Cert.KernelFloored.Facts] [hPre_unfloored : Cert.Pre_unfloored.Facts] : Prop :=
  ∀ (m : (ℓ : Loc Cert.KernelFloored.nD Cert.KernelFloored.τ Cert.KernelFloored.sig) → Buf (Elt Ideal) ℓ) (g : Dev Cert.KernelFloored.nD → PrngReg), Pre_KernelFloored_unfloored m →
    θ_run (Cert.KernelFloored.defs (F := Ideal)) (onTc (τ := Cert.KernelFloored.τ) (Cert.KernelFloored.main (F := Ideal))) ⟨m, fun _ => 0, g⟩ (fun r => (∀ c : Dev Cert.KernelFloored.nD,
      r.2.mem ((c.tc : Thread Cert.KernelFloored.nD Cert.KernelFloored.τ).loc Cert.KernelFloored.main_arg0) = m ((c.tc : Thread Cert.KernelFloored.nD Cert.KernelFloored.τ).loc Cert.KernelFloored.main_arg0)
      ∧ r.2.mem ((c.tc : Thread Cert.KernelFloored.nD Cert.KernelFloored.τ).loc Cert.KernelFloored.main_arg1) = m ((c.tc : Thread Cert.KernelFloored.nD Cert.KernelFloored.τ).loc Cert.KernelFloored.main_arg1))
      ∧ r.2.sem = fun _ => 0)

def preserves_Kernel_KernelIdeal : Prop :=
  IdealRules.named_const.Statement Cert.KernelIdeal.κ "scale" .f32 0x4166D4CA#32 ((((13421773 / 134217728) * (Real.log 2))⁻¹ : ℝ) : EReal)
  ∧ IdealRules.named_const.Statement Cert.KernelIdeal.κ "no_floor" .f32 0x02081CEA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel_KernelFloored : Prop :=
  IdealRules.named_const.Statement Cert.KernelFloored.κ "scale" .f32 0x4166D4CA#32 ((((13421773 / 134217728) * (Real.log 2))⁻¹ : ℝ) : EReal)

def algebraic_KernelFloored_ReferenceIdeal_pre_unfloored [hKernelFloored : Cert.KernelFloored.Facts] [hReferenceIdeal : Cert.ReferenceIdeal.Facts] [hPre_unfloored : Cert.Pre_unfloored.Facts] : Prop :=
  ∀ (m : (ℓ : Loc Cert.KernelFloored.nD Cert.KernelFloored.τ Cert.KernelFloored.sig) → Buf (Elt Ideal) ℓ) (g : Dev Cert.KernelFloored.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelFloored_unfloored m →
    (∀ c : Dev Cert.KernelFloored.nD,
      m' ((c.tc : Thread Cert.ReferenceIdeal.nD Cert.ReferenceIdeal.τ).loc Cert.ReferenceIdeal.main_arg0) = m ((c.tc : Thread Cert.KernelFloored.nD Cert.KernelFloored.τ).loc Cert.KernelFloored.main_arg0)
      ∧ m' ((c.tc : Thread Cert.ReferenceIdeal.nD Cert.ReferenceIdeal.τ).loc Cert.ReferenceIdeal.main_arg1) = m ((c.tc : Thread Cert.KernelFloored.nD Cert.KernelFloored.τ).loc Cert.KernelFloored.main_arg1)) →
    ∃ (v0 : (c : Dev Cert.KernelFloored.nD) → Buf (Elt Ideal) ((c.tc : Thread Cert.KernelFloored.nD Cert.KernelFloored.τ).loc Cert.KernelFloored.main_v0)),
      θ_run (Cert.KernelFloored.defs (F := Ideal)) (onTc (τ := Cert.KernelFloored.τ) (Cert.KernelFloored.main (F := Ideal))) ⟨m, fun _ => 0, g⟩ (fun r => ∀ c : Dev Cert.KernelFloored.nD,
          r.2.mem ((c.tc : Thread Cert.KernelFloored.nD Cert.KernelFloored.τ).loc Cert.KernelFloored.main_v0) = v0 c
          ∧ r.2.mem ((c.tc : Thread Cert.KernelFloored.nD Cert.KernelFloored.τ).loc Cert.KernelFloored.main_arg0) = m ((c.tc : Thread Cert.KernelFloored.nD Cert.KernelFloored.τ).loc Cert.KernelFloored.main_arg0)
          ∧ r.2.mem ((c.tc : Thread Cert.KernelFloored.nD Cert.KernelFloored.τ).loc Cert.KernelFloored.main_arg1) = m ((c.tc : Thread Cert.KernelFloored.nD Cert.KernelFloored.τ).loc Cert.KernelFloored.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hKernelFloored : Cert.KernelFloored.Facts) (hPre_finite : Cert.Pre_finite.Facts) (hPre_unfloored : Cert.Pre_unfloored.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_unfloored (hReferenceIdeal := hReferenceIdeal) (hPre_unfloored := hPre_unfloored)
    ∧ quiescent_KernelFloored (hKernelFloored := hKernelFloored)
    ∧ quiescent_KernelFloored_pre_unfloored (hKernelFloored := hKernelFloored) (hPre_unfloored := hPre_unfloored)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel_KernelFloored
    ∧ algebraic_KernelFloored_ReferenceIdeal_pre_unfloored (hKernelFloored := hKernelFloored) (hReferenceIdeal := hReferenceIdeal) (hPre_unfloored := hPre_unfloored)
-- ==== Pre_finite.lean ====
abbrev S8x2048x2048 : Shape := ⟨3, ![8, 2048, 2048]⟩
abbrev S2048x2048 : Shape := ⟨2, ![2048, 2048]⟩
abbrev S_ : Shape := ⟨0, ![]⟩
abbrev S1x2048x2048 : Shape := ⟨3, ![1, 2048, 2048]⟩

class Facts : Prop where
  bcast_S_S8x2048x2048 : S_.BroadcastsInDim S8x2048x2048 (![] : Fin 0 → Fin S8x2048x2048.rank)
  bcast_S2048x2048_S1x2048x2048_1_2 : S2048x2048.BroadcastsInDim S1x2048x2048 (![1, 2] : Fin 2 → Fin S1x2048x2048.rank)
  bcast_S_S1x2048x2048 : S_.BroadcastsInDim S1x2048x2048 (![] : Fin 0 → Fin S1x2048x2048.rank)
  bcast_S1x2048x2048_S8x2048x2048_0_1_2 : S1x2048x2048.BroadcastsInDim S8x2048x2048 (![0, 1, 2] : Fin 3 → Fin S8x2048x2048.rank)

variable [Facts]

def fn {F : FTy → Type} [FloatOps F] (main_arg0 : FVec F S8x2048x2048 .f32) (main_arg1 : FVec F S2048x2048 .f32) : IVec S8x2048x2048 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_v3 : FVec F S2048x2048 .f32 := Host.absf main_arg1
  let main_v4 : FVec F S1x2048x2048 .f32 := broadcastInDim S1x2048x2048 ![1, 2] bcast_S2048x2048_S1x2048x2048_1_2 main_v3
  let main_cst_0 : FVec F S_ .f32 := constant S_ .f32 0x7F800000#32
  let main_v5 : FVec F S1x2048x2048 .f32 := broadcastInDim S1x2048x2048 ![] bcast_S_S1x2048x2048 main_cst_0
  let main_v6 : IVec S1x2048x2048 1 := cmpf .olt main_v4 main_v5
  let main_v7 : IVec S8x2048x2048 1 := broadcastInDim S8x2048x2048 ![0, 1, 2] bcast_S1x2048x2048_S8x2048x2048_0_1_2 main_v6
  let main_v8 : IVec S8x2048x2048 1 := andi main_v2 main_v7
  main_v8
-- ==== Pre_unfloored.lean ====
abbrev S8x2048x2048 : Shape := ⟨3, ![8, 2048, 2048]⟩
abbrev S2048x2048 : Shape := ⟨2, ![2048, 2048]⟩
abbrev S1x2048x2048 : Shape := ⟨3, ![1, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

class Facts : Prop where
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S_S1x2048x2048 : S_.BroadcastsInDim S1x2048x2048 (![] : Fin 0 → Fin S1x2048x2048.rank)
  bcast_S_S8x1x2048 : S_.BroadcastsInDim S8x1x2048 (![] : Fin 0 → Fin S8x1x2048.rank)
  bcast_S8x1x2048_S8x2048x2048_0_1_2 : S8x1x2048.BroadcastsInDim S8x2048x2048 (![0, 1, 2] : Fin 3 → Fin S8x2048x2048.rank)
  bcast_S_S8x2048x1 : S_.BroadcastsInDim S8x2048x1 (![] : Fin 0 → Fin S8x2048x1.rank)

variable [Facts]

def fn_part22 {F : FTy → Type} [FloatOps F] (main_v403 : FVec F S8x1x2048 .f32) (main_v407 : IVec S8x2048x2048 1) : IVec S8x2048x2048 1 :=
  let main_cst_119 : FVec F S_ .f32 := constant S_ .f32 0x02081CEA#32
  let main_v408 : FVec F S8x1x2048 .f32 := broadcastInDim S8x1x2048 ![] bcast_S_S8x1x2048 main_cst_119
  let main_v409 : IVec S8x1x2048 1 := cmpf .oge main_v403 main_v408
  let main_v410 : IVec S8x2048x2048 1 := broadcastInDim S8x2048x2048 ![0, 1, 2] bcast_S8x1x2048_S8x2048x2048_0_1_2 main_v409
  let main_v411 : IVec S8x2048x2048 1 := andi main_v407 main_v410
  main_v411

def fn_part21 {F : FTy → Type} [FloatOps F] (main_v16 : FVec F S8x2048x2048 .f32) (main_v383 : FVec F S8x1x2048 .f32) (main_v387 : IVec S8x2048x2048 1) (main_v388 : FVec F S8x1x2048 .f32) : IVec S8x2048x2048 1 :=
  let main_v389 : IVec S8x1x2048 1 := cmpf .oge main_v383 main_v388
  let main_v390 : IVec S8x2048x2048 1 := broadcastInDim S8x2048x2048 ![0, 1, 2] bcast_S8x1x2048_S8x2048x2048_0_1_2 main_v389
  let main_v391 : IVec S8x2048x2048 1 := andi main_v387 main_v390
  let main_cst_114 : FVec F S_ .f32 := constant S_ .f32 0x3F800000#32
  let main_v392 : FVec F S8x1x2048 .f32 := broadcastInDim S8x1x2048 ![] bcast_S_S8x1x2048 main_cst_114
  let main_v393 : FVec F S8x1x2048 .f32 := Host.divf main_v392 main_v383
  let main_v394 : FVec F S8x2048x2048 .f32 := broadcastInDim S8x2048x2048 ![0, 1, 2] bcast_S8x1x2048_S8x2048x2048_0_1_2 main_v393
  let main_v395 : FVec F S8x2048x2048 .f32 := mulf main_v16 main_v394
  let main_cst_115 : FVec F S_ .f32 := constant S_ .f32 0x00000000#32
  let main_v396 : FVec F S8x2048 .f32 := (fun x v => Host.reduceAdd x v reducesTo_S8x2048x2048_S8x2048_d2 h_S_) main_v395 main_cst_115
  let main_v397 : FVec F S8x2048x1 .f32 := broadcastInDim S8x2048x1 ![0, 1] bcast_S8x2048_S8x2048x1_0_1 main_v396
  let main_cst_116 : FVec F S_ .f32 := constant S_ .f32 0x3F800000#32
  let main_v398 : FVec F S8x2048x1 .f32 := broadcastInDim S8x2048x1 ![] bcast_S_S8x2048x1 main_cst_116
  let main_v399 : FVec F S8x2048x1 .f32 := Host.divf main_v398 main_v397
  let main_v400 : FVec F S8x2048x2048 .f32 := broadcastInDim S8x2048x2048 ![0, 1, 2] bcast_S8x2048x1_S8x2048x2048_0_1_2 main_v399
  let main_v401 : FVec F S8x2048x2048 .f32 := mulf main_v16 main_v400
  let main_cst_117 : FVec F S_ .f32 := constant S_ .f32 0x00000000#32
  let main_v402 : FVec F S8x2048 .f32 := (fun x v => Host.reduceAdd x v reducesTo_S8x2048x2048_S8x2048_d1 h_S_) main_v401 main_cst_117
  let main_v403 : FVec F S8x1x2048 .f32 := broadcastInDim S8x1x2048 ![0, 2] bcast_S8x2048_S8x1x2048_0_2 main_v402
  let main_cst_118 : FVec F S_ .f32 := constant S_ .f32 0x02081CEA#32
  let main_v404 : FVec F S8x2048x1 .f32 := broadcastInDim S8x2048x1 ![] bcast_S_S8x2048x1 main_cst_118
  let main_v405 : IVec S8x2048x1 1 := cmpf .oge main_v397 main_v404
  let main_v406 : IVec S8x2048x2048 1 := broadcastInDim S8x2048x2048 ![0, 1, 2] bcast_S8x2048x1_S8x2048x2048_0_1_2 main_v405
  let main_v407 : IVec S8x2048x2048 1 := andi main_v391 main_v406
  fn_part22 (F := F) main_v403 main_v407

def fn_part20 {F : FTy → Type} [FloatOps F] (main_v16 : FVec F S8x2048x2048 .f32) (main_v363 : FVec F S8x1x2048 .f32) (main_v367 : IVec S8x2048x2048 1) (main_v370 : IVec S8x2048x2048 1) : IVec S8x2048x2048 1 :=
  let main_v371 : IVec S8x2048x2048 1 := andi main_v367 main_v370
  let main_cst_108 : FVec F S_ .f32 := constant S_ .f32 0x3F800000#32
  let main_v372 : FVec F S8x1x2048 .f32 := broadcastInDim S8x1x2048 ![] bcast_S_S8x1x2048 main_cst_108
  let main_v373 : FVec F S8x1x2048 .f32 := Host.divf main_v372 main_v363
  let main_v374 : FVec F S8x2048x2048 .f32 := broadcastInDim S8x2048x2048 ![0, 1, 2] bcast_S8x1x2048_S8x2048x2048_0_1_2 main_v373
  let main_v375 : FVec F S8x2048x2048 .f32 := mulf main_v16 main_v374
  let main_cst_109 : FVec F S_ .f32 := constant S_ .f32 0x00000000#32
  let main_v376 : FVec F S8x2048 .f32 := (fun x v => Host.reduceAdd x v reducesTo_S8x2048x2048_S8x2048_d2 h_S_) main_v375 main_cst_109
  let main_v377 : FVec F S8x2048x1 .f32 := broadcastInDim S8x2048x1 ![0, 1] bcast_S8x2048_S8x2048x1_0_1 main_v376
  let main_cst_110 : FVec F S_ .f32 := constant S_ .f32 0x3F800000#32
  let main_v378 : FVec F S8x2048x1 .f32 := broadcastInDim S8x2048x1 ![] bcast_S_S8x2048x1 main_cst_110
  let main_v379 : FVec F S8x2048x1 .f32 := Host.divf main_v378 main_v377
  let main_v380 : FVec F S8x2048x2048 .f32 := broadcastInDim S8x2048x2048 ![0, 1, 2] bcast_S8x2048x1_S8x2048x2048_0_1_2 main_v379
  let main_v381 : FVec F S8x2048x2048 .f32 := mulf main_v16 main_v380
  let main_cst_111 : FVec F S_ .f32 := constant S_ .f32 0x00000000#32
  let main_v382 : FVec F S8x2048 .f32 := (fun x v => Host.reduceAdd x v reducesTo_S8x2048x2048_S8x2048_d1 h_S_) main_v381 main_cst_111
  let main_v383 : FVec F S8x1x2048 .f32 := broadcastInDim S8x1x2048 ![0, 2] bcast_S8x2048_S8x1x2048_0_2 main_v382
  let main_cst_112 : FVec F S_ .f32 := constant S_ .f32 0x02081CEA#32
  let main_v384 : FVec F S8x2048x1 .f32 := broadcastInDim S8x2048x1 ![] bcast_S_S8x2048x1 main_cst_112
  let main_v385 : IVec S8x2048x1 1 := cmpf .oge main_v377 main_v384
  let main_v386 : IVec S8x2048x2048 1 := broadcastInDim S8x2048x2048 ![0, 1, 2] bcast_S8x2048x1_S8x2048x2048_0_1_2 main_v385
  let main_v387 : IVec S8x2048x2048 1 := andi main_v371 main_v386
  let main_cst_113 : FVec F S_ .f32 := constant S_ .f32 0x02081CEA#32
  let main_v388 : FVec F S8x1x2048 .f32 := broadcastInDim S8x1x2048 ![] bcast_S_S8x1x2048 main_cst_113
  fn_part21 (F := F) main_v16 main_v383 main_v387 main_v388

def fn_part19 {F : FTy → Type} [FloatOps F] (main_v16 : FVec F S8x2048x2048 .f32) (main_v343 : FVec F S8x1x2048 .f32) (main_v351 : IVec S8x2048x2048 1) (main_cst_102 : FVec F S_ .f32) : IVec S8x2048x2048 1 :=
  let main_v352 : FVec F S8x1x2048 .f32 := broadcastInDim S8x1x2048 ![] bcast_S_S8x1x2048 main_cst_102
  let main_v353 : FVec F S8x1x2048 .f32 := Host.divf main_v352 main_v343
  let main_v354 : FVec F S8x2048x2048 .f32 := broadcastInDim S8x2048x2048 ![0, 1, 2] bcast_S8x1x2048_S8x2048x2048_0_1_2 main_v353
  let main_v355 : FVec F S8x2048x2048 .f32 := mulf main_v16 main_v354
  let main_cst_103 : FVec F S_ .f32 := constant S_ .f32 0x00000000#32
  let main_v356 : FVec F S8x2048 .f32 := (fun x v => Host.reduceAdd x v reducesTo_S8x2048x2048_S8x2048_d2 h_S_) main_v355 main_cst_103
  let main_v357 : FVec F S8x2048x1 .f32 := broadcastInDim S8x2048x1 ![0, 1] bcast_S8x2048_S8x2048x1_0_1 main_v356
  let main_cst_104 : FVec F S_ .f32 := constant S_ .f32 0x3F800000#32
  let main_v358 : FVec F S8x2048x1 .f32 := broadcastInDim S8x2048x1 ![] bcast_S_S8x2048x1 main_cst_104
  let main_v359 : FVec F S8x2048x1 .f32 := Host.divf main_v358 main_v357
  let main_v360 : FVec F S8x2048x2048 .f32 := broadcastInDim S8x2048x2048 ![0, 1, 2] bcast_S8x2048x1_S8x2048x2048_0_1_2 main_v359
  let main_v361 : FVec F S8x2048x2048 .f32 := mulf main_v16 main_v360
  let main_cst_105 : FVec F S_ .f32 := constant S_ .f32 0x00000000#32
  let main_v362 : FVec F S8x2048 .f32 := (fun x v => Host.reduceAdd x v reducesTo_S8x2048x2048_S8x2048_d1 h_S_) main_v361 main_cst_105
  let main_v363 : FVec F S8x1x2048 .f32 := broadcastInDim S8x1x2048 ![0, 2] bcast_S8x2048_S8x1x2048_0_2 main_v362
  let main_cst_106 : FVec F S_ .f32 := constant S_ .f32 0x02081CEA#32
  let main_v364 : FVec F S8x2048x1 .f32 := broadcastInDim S8x2048x1 ![] bcast_S_S8x2048x1 main_cst_106
  let main_v365 : IVec S8x2048x1 1 := cmpf .oge main_v357 main_v364
  let main_v366 : IVec S8x2048x2048 1 := broadcastInDim S8x2048x2048 ![0, 1, 2] bcast_S8x2048x1_S8x2048x2048_0_1_2 main_v365
  let main_v367 : IVec S8x2048x2048 1 := andi main_v351 main_v366
  let main_cst_107 : FVec F S_ .f32 := constant S_ .f32 0x02081CEA#32
  let main_v368 : FVec F S8x1x2048 .f32 := broadcastInDim S8x1x2048 ![] bcast_S_S8x1x2048 main_cst_107
  let main_v369 : IVec S8x1x2048 1 := cmpf .oge main_v363 main_v368
  let main_v370 : IVec S8x2048x2048 1 := broadcastInDim S8x2048x2048 ![0, 1, 2] bcast_S8x1x2048_S8x2048x2048_0_1_2 main_v369
  fn_part20 (F := F) main_v16 main_v363 main_v367 main_v370

def fn_part18 {F : FTy → Type} [FloatOps F] (main_v16 : FVec F S8x2048x2048 .f32) (main_v331 : IVec S8x2048x2048 1) (main_v333 : FVec F S8x1x2048 .f32) : IVec S8x2048x2048 1 :=
  let main_v334 : FVec F S8x2048x2048 .f32 := broadcastInDim S8x2048x2048 ![0, 1, 2] bcast_S8x1x2048_S8x2048x2048_0_1_2 main_v333
  let main_v335 : FVec F S8x2048x2048 .f32 := mulf main_v16 main_v334
  let main_cst_97 : FVec F S_ .f32 := constant S_ .f32 0x00000000#32
  let main_v336 : FVec F S8x2048 .f32 := (fun x v => Host.reduceAdd x v reducesTo_S8x2048x2048_S8x2048_d2 h_S_) main_v335 main_cst_97
  let main_v337 : FVec F S8x2048x1 .f32 := broadcastInDim S8x2048x1 ![0, 1] bcast_S8x2048_S8x2048x1_0_1 main_v336
  let main_cst_98 : FVec F S_ .f32 := constant S_ .f32 0x3F800000#32
  let main_v338 : FVec F S8x2048x1 .f32 := broadcastInDim S8x2048x1 ![] bcast_S_S8x2048x1 main_cst_98
  let main_v339 : FVec F S8x2048x1 .f32 := Host.divf main_v338 main_v337
  let main_v340 : FVec F S8x2048x2048 .f32 := broadcastInDim S8x2048x2048 ![0, 1, 2] bcast_S8x2048x1_S8x2048x2048_0_1_2 main_v339
  let main_v341 : FVec F S8x2048x2048 .f32 := mulf main_v16 main_v340
  let main_cst_99 : FVec F S_ .f32 := constant S_ .f32 0x00000000#32
  let main_v342 : FVec F S8x2048 .f32 := (fun x v => Host.reduceAdd x v reducesTo_S8x2048x2048_S8x2048_d1 h_S_) main_v341 main_cst_99
  let main_v343 : FVec F S8x1x2048 .f32 := broadcastInDim S8x1x2048 ![0, 2] bcast_S8x2048_S8x1x2048_0_2 main_v342
  let main_cst_100 : FVec F S_ .f32 := constant S_ .f32 0x02081CEA#32
  let main_v344 : FVec F S8x2048x1 .f32 := broadcastInDim S8x2048x1 ![] bcast_S_S8x2048x1 main_cst_100
  let main_v345 : IVec S8x2048x1 1 := cmpf .oge main_v337 main_v344
  let main_v346 : IVec S8x2048x2048 1 := broadcastInDim S8x2048x2048 ![0, 1, 2] bcast_S8x2048x1_S8x2048x2048_0_1_2 main_v345
  let main_v347 : IVec S8x2048x2048 1 := andi main_v331 main_v346
  let main_cst_101 : FVec F S_ .f32 := constant S_ .f32 0x02081CEA#32
  let main_v348 : FVec F S8x1x2048 .f32 := broadcastInDim S8x1x2048 ![] bcast_S_S8x1x2048 main_cst_101
  let main_v349 : IVec S8x1x2048 1 := cmpf .oge main_v343 main_v348
  let main_v350 : IVec S8x2048x2048 1 := broadcastInDim S8x2048x2048 ![0, 1, 2] bcast_S8x1x2048_S8x2048x2048_0_1_2 main_v349
  let main_v351 : IVec S8x2048x2048 1 := andi main_v347 main_v350
  let main_cst_102 : FVec F S_ .f32 := constant S_ .f32 0x3F800000#32
  fn_part19 (F := F) main_v16 main_v343 main_v351 main_cst_102

def fn_part17 {F : FTy → Type} [FloatOps F] (main_v16 : FVec F S8x2048x2048 .f32) (main_v311 : IVec S8x2048x2048 1) (main_v315 : FVec F S8x2048x2048 .f32) : IVec S8x2048x2048 1 :=
  let main_cst_91 : FVec F S_ .f32 := constant S_ .f32 0x00000000#32
  let main_v316 : FVec F S8x2048 .f32 := (fun x v => Host.reduceAdd x v reducesTo_S8x2048x2048_S8x2048_d2 h_S_) main_v315 main_cst_91
  let main_v317 : FVec F S8x2048x1 .f32 := broadcastInDim S8x2048x1 ![0, 1] bcast_S8x2048_S8x2048x1_0_1 main_v316
  let main_cst_92 : FVec F S_ .f32 := constant S_ .f32 0x3F800000#32
  let main_v318 : FVec F S8x2048x1 .f32 := broadcastInDim S8x2048x1 ![] bcast_S_S8x2048x1 main_cst_92
  let main_v319 : FVec F S8x2048x1 .f32 := Host.divf main_v318 main_v317
  let main_v320 : FVec F S8x2048x2048 .f32 := broadcastInDim S8x2048x2048 ![0, 1, 2] bcast_S8x2048x1_S8x2048x2048_0_1_2 main_v319
  let main_v321 : FVec F S8x2048x2048 .f32 := mulf main_v16 main_v320
  let main_cst_93 : FVec F S_ .f32 := constant S_ .f32 0x00000000#32
  let main_v322 : FVec F S8x2048 .f32 := (fun x v => Host.reduceAdd x v reducesTo_S8x2048x2048_S8x2048_d1 h_S_) main_v321 main_cst_93
  let main_v323 : FVec F S8x1x2048 .f32 := broadcastInDim S8x1x2048 ![0, 2] bcast_S8x2048_S8x1x2048_0_2 main_v322
  let main_cst_94 : FVec F S_ .f32 := constant S_ .f32 0x02081CEA#32
  let main_v324 : FVec F S8x2048x1 .f32 := broadcastInDim S8x2048x1 ![] bcast_S_S8x2048x1 main_cst_94
  let main_v325 : IVec S8x2048x1 1 := cmpf .oge main_v317 main_v324
  let main_v326 : IVec S8x2048x2048 1 := broadcastInDim S8x2048x2048 ![0, 1, 2] bcast_S8x2048x1_S8x2048x2048_0_1_2 main_v325
  let main_v327 : IVec S8x2048x2048 1 := andi main_v311 main_v326
  let main_cst_95 : FVec F S_ .f32 := constant S_ .f32 0x02081CEA#32
  let main_v328 : FVec F S8x1x2048 .f32 := broadcastInDim S8x1x2048 ![] bcast_S_S8x1x2048 main_cst_95
  let main_v329 : IVec S8x1x2048 1 := cmpf .oge main_v323 main_v328
  let main_v330 : IVec S8x2048x2048 1 := broadcastInDim S8x2048x2048 ![0, 1, 2] bcast_S8x1x2048_S8x2048x2048_0_1_2 main_v329
  let main_v331 : IVec S8x2048x2048 1 := andi main_v327 main_v330
  let main_cst_96 : FVec F S_ .f32 := constant S_ .f32 0x3F800000#32
  let main_v332 : FVec F S8x1x2048 .f32 := broadcastInDim S8x1x2048 ![] bcast_S_S8x1x2048 main_cst_96
  let main_v333 : FVec F S8x1x2048 .f32 := Host.divf main_v332 main_v323
  fn_part18 (F := F) main_v16 main_v331 main_v333

def fn_part16 {F : FTy → Type} [FloatOps F] (main_v16 : FVec F S8x2048x2048 .f32) (main_v291 : IVec S8x2048x2048 1) (main_v296 : FVec F S8x2048 .f32) : IVec S8x2048x2048 1 :=
  let main_v297 : FVec F S8x2048x1 .f32 := broadcastInDim S8x2048x1 ![0, 1] bcast_S8x2048_S8x2048x1_0_1 main_v296
  let main_cst_86 : FVec F S_ .f32 := constant S_ .f32 0x3F800000#32
  let main_v298 : FVec F S8x2048x1 .f32 := broadcastInDim S8x2048x1 ![] bcast_S_S8x2048x1 main_cst_86
  let main_v299 : FVec F S8x2048x1 .f32 := Host.divf main_v298 main_v297
  let main_v300 : FVec F S8x2048x2048 .f32 := broadcastInDim S8x2048x2048 ![0, 1, 2] bcast_S8x2048x1_S8x2048x2048_0_1_2 main_v299
  let main_v301 : FVec F S8x2048x2048 .f32 := mulf main_v16 main_v300
  let main_cst_87 : FVec F S_ .f32 := constant S_ .f32 0x00000000#32
  let main_v302 : FVec F S8x2048 .f32 := (fun x v => Host.reduceAdd x v reducesTo_S8x2048x2048_S8x2048_d1 h_S_) main_v301 main_cst_87
  let main_v303 : FVec F S8x1x2048 .f32 := broadcastInDim S8x1x2048 ![0, 2] bcast_S8x2048_S8x1x2048_0_2 main_v302
  let main_cst_88 : FVec F S_ .f32 := constant S_ .f32 0x02081CEA#32
  let main_v304 : FVec F S8x2048x1 .f32 := broadcastInDim S8x2048x1 ![] bcast_S_S8x2048x1 main_cst_88
  let main_v305 : IVec S8x2048x1 1 := cmpf .oge main_v297 main_v304
  let main_v306 : IVec S8x2048x2048 1 := broadcastInDim S8x2048x2048 ![0, 1, 2] bcast_S8x2048x1_S8x2048x2048_0_1_2 main_v305
  let main_v307 : IVec S8x2048x2048 1 := andi main_v291 main_v306
  let main_cst_89 : FVec F S_ .f32 := constant S_ .f32 0x02081CEA#32
  let main_v308 : FVec F S8x1x2048 .f32 := broadcastInDim S8x1x2048 ![] bcast_S_S8x1x2048 main_cst_89
  let main_v309 : IVec S8x1x2048 1 := cmpf .oge main_v303 main_v308
  let main_v310 : IVec S8x2048x2048 1 := broadcastInDim S8x2048x2048 ![0, 1, 2] bcast_S8x1x2048_S8x2048x2048_0_1_2 main_v309
  let main_v311 : IVec S8x2048x2048 1 := andi main_v307 main_v310
  let main_cst_90 : FVec F S_ .f32 := constant S_ .f32 0x3F800000#32
  let main_v312 : FVec F S8x1x2048 .f32 := broadcastInDim S8x1x2048 ![] bcast_S_S8x1x2048 main_cst_90
  let main_v313 : FVec F S8x1x2048 .f32 := Host.divf main_v312 main_v303
  let main_v314 : FVec F S8x2048x2048 .f32 := broadcastInDim S8x2048x2048 ![0, 1, 2] bcast_S8x1x2048_S8x2048x2048_0_1_2 main_v313
  let main_v315 : FVec F S8x2048x2048 .f32 := mulf main_v16 main_v314
  fn_part17 (F := F) main_v16 main_v311 main_v315

def fn_part15 {F : FTy → Type} [FloatOps F] (main_v16 : FVec F S8x2048x2048 .f32) (main_v271 : IVec S8x2048x2048 1) (main_v277 : FVec F S8x2048x1 .f32) (main_cst_80 : FVec F S_ .f32) : IVec S8x2048x2048 1 :=
  let main_v278 : FVec F S8x2048x1 .f32 := broadcastInDim S8x2048x1 ![] bcast_S_S8x2048x1 main_cst_80
  let main_v279 : FVec F S8x2048x1 .f32 := Host.divf main_v278 main_v277
  let main_v280 : FVec F S8x2048x2048 .f32 := broadcastInDim S8x2048x2048 ![0, 1, 2] bcast_S8x2048x1_S8x2048x2048_0_1_2 main_v279
  let main_v281 : FVec F S8x2048x2048 .f32 := mulf main_v16 main_v280
  let main_cst_81 : FVec F S_ .f32 := constant S_ .f32 0x00000000#32
  let main_v282 : FVec F S8x2048 .f32 := (fun x v => Host.reduceAdd x v reducesTo_S8x2048x2048_S8x2048_d1 h_S_) main_v281 main_cst_81
  let main_v283 : FVec F S8x1x2048 .f32 := broadcastInDim S8x1x2048 ![0, 2] bcast_S8x2048_S8x1x2048_0_2 main_v282
  let main_cst_82 : FVec F S_ .f32 := constant S_ .f32 0x02081CEA#32
  let main_v284 : FVec F S8x2048x1 .f32 := broadcastInDim S8x2048x1 ![] bcast_S_S8x2048x1 main_cst_82
  let main_v285 : IVec S8x2048x1 1 := cmpf .oge main_v277 main_v284
  let main_v286 : IVec S8x2048x2048 1 := broadcastInDim S8x2048x2048 ![0, 1, 2] bcast_S8x2048x1_S8x2048x2048_0_1_2 main_v285
  let main_v287 : IVec S8x2048x2048 1 := andi main_v271 main_v286
  let main_cst_83 : FVec F S_ .f32 := constant S_ .f32 0x02081CEA#32
  let main_v288 : FVec F S8x1x2048 .f32 := broadcastInDim S8x1x2048 ![] bcast_S_S8x1x2048 main_cst_83
  let main_v289 : IVec S8x1x2048 1 := cmpf .oge main_v283 main_v288
  let main_v290 : IVec S8x2048x2048 1 := broadcastInDim S8x2048x2048 ![0, 1, 2] bcast_S8x1x2048_S8x2048x2048_0_1_2 main_v289
  let main_v291 : IVec S8x2048x2048 1 := andi main_v287 main_v290
  let main_cst_84 : FVec F S_ .f32 := constant S_ .f32 0x3F800000#32
  let main_v292 : FVec F S8x1x2048 .f32 := broadcastInDim S8x1x2048 ![] bcast_S_S8x1x2048 main_cst_84
  let main_v293 : FVec F S8x1x2048 .f32 := Host.divf main_v292 main_v283
  let main_v294 : FVec F S8x2048x2048 .f32 := broadcastInDim S8x2048x2048 ![0, 1, 2] bcast_S8x1x2048_S8x2048x2048_0_1_2 main_v293
  let main_v295 : FVec F S8x2048x2048 .f32 := mulf main_v16 main_v294
  let main_cst_85 : FVec F S_ .f32 := constant S_ .f32 0x00000000#32
  let main_v296 : FVec F S8x2048 .f32 := (fun x v => Host.reduceAdd x v reducesTo_S8x2048x2048_S8x2048_d2 h_S_) main_v295 main_cst_85
  fn_part16 (F := F) main_v16 main_v291 main_v296

def fn_part14 {F : FTy → Type} [FloatOps F] (main_v16 : FVec F S8x2048x2048 .f32) (main_v251 : IVec S8x2048x2048 1) (main_v257 : FVec F S8x2048x1 .f32) (main_v259 : FVec F S8x2048x1 .f32) : IVec S8x2048x2048 1 :=
  let main_v260 : FVec F S8x2048x2048 .f32 := broadcastInDim S8x2048x2048 ![0, 1, 2] bcast_S8x2048x1_S8x2048x2048_0_1_2 main_v259
  let main_v261 : FVec F S8x2048x2048 .f32 := mulf main_v16 main_v260
  let main_cst_75 : FVec F S_ .f32 := constant S_ .f32 0x00000000#32
  let main_v262 : FVec F S8x2048 .f32 := (fun x v => Host.reduceAdd x v reducesTo_S8x2048x2048_S8x2048_d1 h_S_) main_v261 main_cst_75
  let main_v263 : FVec F S8x1x2048 .f32 := broadcastInDim S8x1x2048 ![0, 2] bcast_S8x2048_S8x1x2048_0_2 main_v262
  let main_cst_76 : FVec F S_ .f32 := constant S_ .f32 0x02081CEA#32
  let main_v264 : FVec F S8x2048x1 .f32 := broadcastInDim S8x2048x1 ![] bcast_S_S8x2048x1 main_cst_76
  let main_v265 : IVec S8x2048x1 1 := cmpf .oge main_v257 main_v264
  let main_v266 : IVec S8x2048x2048 1 := broadcastInDim S8x2048x2048 ![0, 1, 2] bcast_S8x2048x1_S8x2048x2048_0_1_2 main_v265
  let main_v267 : IVec S8x2048x2048 1 := andi main_v251 main_v266
  let main_cst_77 : FVec F S_ .f32 := constant S_ .f32 0x02081CEA#32
  let main_v268 : FVec F S8x1x2048 .f32 := broadcastInDim S8x1x2048 ![] bcast_S_S8x1x2048 main_cst_77
  let main_v269 : IVec S8x1x2048 1 := cmpf .oge main_v263 main_v268
  let main_v270 : IVec S8x2048x2048 1 := broadcastInDim S8x2048x2048 ![0, 1, 2] bcast_S8x1x2048_S8x2048x2048_0_1_2 main_v269
  let main_v271 : IVec S8x2048x2048 1 := andi main_v267 main_v270
  let main_cst_78 : FVec F S_ .f32 := constant S_ .f32 0x3F800000#32
  let main_v272 : FVec F S8x1x2048 .f32 := broadcastInDim S8x1x2048 ![] bcast_S_S8x1x2048 main_cst_78
  let main_v273 : FVec F S8x1x2048 .f32 := Host.divf main_v272 main_v263
  let main_v274 : FVec F S8x2048x2048 .f32 := broadcastInDim S8x2048x2048 ![0, 1, 2] bcast_S8x1x2048_S8x2048x2048_0_1_2 main_v273
  let main_v275 : FVec F S8x2048x2048 .f32 := mulf main_v16 main_v274
  let main_cst_79 : FVec F S_ .f32 := constant S_ .f32 0x00000000#32
  let main_v276 : FVec F S8x2048 .f32 := (fun x v => Host.reduceAdd x v reducesTo_S8x2048x2048_S8x2048_d2 h_S_) main_v275 main_cst_79
  let main_v277 : FVec F S8x2048x1 .f32 := broadcastInDim S8x2048x1 ![0, 1] bcast_S8x2048_S8x2048x1_0_1 main_v276
  let main_cst_80 : FVec F S_ .f32 := constant S_ .f32 0x3F800000#32
  fn_part15 (F := F) main_v16 main_v271 main_v277 main_cst_80

def fn_part13 {F : FTy → Type} [FloatOps F] (main_v16 : FVec F S8x2048x2048 .f32) (main_v231 : IVec S8x2048x2048 1) (main_v237 : FVec F S8x2048x1 .f32) (main_v241 : FVec F S8x2048x2048 .f32) : IVec S8x2048x2048 1 :=
  let main_cst_69 : FVec F S_ .f32 := constant S_ .f32 0x00000000#32
  let main_v242 : FVec F S8x2048 .f32 := (fun x v => Host.reduceAdd x v reducesTo_S8x2048x2048_S8x2048_d1 h_S_) main_v241 main_cst_69
  let main_v243 : FVec F S8x1x2048 .f32 := broadcastInDim S8x1x2048 ![0, 2] bcast_S8x2048_S8x1x2048_0_2 main_v242
  let main_cst_70 : FVec F S_ .f32 := constant S_ .f32 0x02081CEA#32
  let main_v244 : FVec F S8x2048x1 .f32 := broadcastInDim S8x2048x1 ![] bcast_S_S8x2048x1 main_cst_70
  let main_v245 : IVec S8x2048x1 1 := cmpf .oge main_v237 main_v244
  let main_v246 : IVec S8x2048x2048 1 := broadcastInDim S8x2048x2048 ![0, 1, 2] bcast_S8x2048x1_S8x2048x2048_0_1_2 main_v245
  let main_v247 : IVec S8x2048x2048 1 := andi main_v231 main_v246
  let main_cst_71 : FVec F S_ .f32 := constant S_ .f32 0x02081CEA#32
  let main_v248 : FVec F S8x1x2048 .f32 := broadcastInDim S8x1x2048 ![] bcast_S_S8x1x2048 main_cst_71
  let main_v249 : IVec S8x1x2048 1 := cmpf .oge main_v243 main_v248
  let main_v250 : IVec S8x2048x2048 1 := broadcastInDim S8x2048x2048 ![0, 1, 2] bcast_S8x1x2048_S8x2048x2048_0_1_2 main_v249
  let main_v251 : IVec S8x2048x2048 1 := andi main_v247 main_v250
  let main_cst_72 : FVec F S_ .f32 := constant S_ .f32 0x3F800000#32
  let main_v252 : FVec F S8x1x2048 .f32 := broadcastInDim S8x1x2048 ![] bcast_S_S8x1x2048 main_cst_72
  let main_v253 : FVec F S8x1x2048 .f32 := Host.divf main_v252 main_v243
  let main_v254 : FVec F S8x2048x2048 .f32 := broadcastInDim S8x2048x2048 ![0, 1, 2] bcast_S8x1x2048_S8x2048x2048_0_1_2 main_v253
  let main_v255 : FVec F S8x2048x2048 .f32 := mulf main_v16 main_v254
  let main_cst_73 : FVec F S_ .f32 := constant S_ .f32 0x00000000#32
  let main_v256 : FVec F S8x2048 .f32 := (fun x v => Host.reduceAdd x v reducesTo_S8x2048x2048_S8x2048_d2 h_S_) main_v255 main_cst_73
  let main_v257 : FVec F S8x2048x1 .f32 := broadcastInDim S8x2048x1 ![0, 1] bcast_S8x2048_S8x2048x1_0_1 main_v256
  let main_cst_74 : FVec F S_ .f32 := constant S_ .f32 0x3F800000#32
  let main_v258 : FVec F S8x2048x1 .f32 := broadcastInDim S8x2048x1 ![] bcast_S_S8x2048x1 main_cst_74
  let main_v259 : FVec F S8x2048x1 .f32 := Host.divf main_v258 main_v257
  fn_part14 (F := F) main_v16 main_v251 main_v257 main_v259

def fn_part12 {F : FTy → Type} [FloatOps F] (main_v16 : FVec F S8x2048x2048 .f32) (main_v211 : IVec S8x2048x2048 1) (main_v217 : FVec F S8x2048x1 .f32) (main_v222 : FVec F S8x2048 .f32) : IVec S8x2048x2048 1 :=
  let main_v223 : FVec F S8x1x2048 .f32 := broadcastInDim S8x1x2048 ![0, 2] bcast_S8x2048_S8x1x2048_0_2 main_v222
  let main_cst_64 : FVec F S_ .f32 := constant S_ .f32 0x02081CEA#32
  let main_v224 : FVec F S8x2048x1 .f32 := broadcastInDim S8x2048x1 ![] bcast_S_S8x2048x1 main_cst_64
  let main_v225 : IVec S8x2048x1 1 := cmpf .oge main_v217 main_v224
  let main_v226 : IVec S8x2048x2048 1 := broadcastInDim S8x2048x2048 ![0, 1, 2] bcast_S8x2048x1_S8x2048x2048_0_1_2 main_v225
  let main_v227 : IVec S8x2048x2048 1 := andi main_v211 main_v226
  let main_cst_65 : FVec F S_ .f32 := constant S_ .f32 0x02081CEA#32
  let main_v228 : FVec F S8x1x2048 .f32 := broadcastInDim S8x1x2048 ![] bcast_S_S8x1x2048 main_cst_65
  let main_v229 : IVec S8x1x2048 1 := cmpf .oge main_v223 main_v228
  let main_v230 : IVec S8x2048x2048 1 := broadcastInDim S8x2048x2048 ![0, 1, 2] bcast_S8x1x2048_S8x2048x2048_0_1_2 main_v229
  let main_v231 : IVec S8x2048x2048 1 := andi main_v227 main_v230
  let main_cst_66 : FVec F S_ .f32 := constant S_ .f32 0x3F800000#32
  let main_v232 : FVec F S8x1x2048 .f32 := broadcastInDim S8x1x2048 ![] bcast_S_S8x1x2048 main_cst_66
  let main_v233 : FVec F S8x1x2048 .f32 := Host.divf main_v232 main_v223
  let main_v234 : FVec F S8x2048x2048 .f32 := broadcastInDim S8x2048x2048 ![0, 1, 2] bcast_S8x1x2048_S8x2048x2048_0_1_2 main_v233
  let main_v235 : FVec F S8x2048x2048 .f32 := mulf main_v16 main_v234
  let main_cst_67 : FVec F S_ .f32 := constant S_ .f32 0x00000000#32
  let main_v236 : FVec F S8x2048 .f32 := (fun x v => Host.reduceAdd x v reducesTo_S8x2048x2048_S8x2048_d2 h_S_) main_v235 main_cst_67
  let main_v237 : FVec F S8x2048x1 .f32 := broadcastInDim S8x2048x1 ![0, 1] bcast_S8x2048_S8x2048x1_0_1 main_v236
  let main_cst_68 : FVec F S_ .f32 := constant S_ .f32 0x3F800000#32
  let main_v238 : FVec F S8x2048x1 .f32 := broadcastInDim S8x2048x1 ![] bcast_S_S8x2048x1 main_cst_68
  let main_v239 : FVec F S8x2048x1 .f32 := Host.divf main_v238 main_v237
  let main_v240 : FVec F S8x2048x2048 .f32 := broadcastInDim S8x2048x2048 ![0, 1, 2] bcast_S8x2048x1_S8x2048x2048_0_1_2 main_v239
  let main_v241 : FVec F S8x2048x2048 .f32 := mulf main_v16 main_v240
  fn_part13 (F := F) main_v16 main_v231 main_v237 main_v241

def fn_part11 {F : FTy → Type} [FloatOps F] (main_v16 : FVec F S8x2048x2048 .f32) (main_v191 : IVec S8x2048x2048 1) (main_v197 : FVec F S8x2048x1 .f32) (main_v203 : FVec F S8x1x2048 .f32) (main_cst_58 : FVec F S_ .f32) : IVec S8x2048x2048 1 :=
  let main_v204 : FVec F S8x2048x1 .f32 := broadcastInDim S8x2048x1 ![] bcast_S_S8x2048x1 main_cst_58
  let main_v205 : IVec S8x2048x1 1 := cmpf .oge main_v197 main_v204
  let main_v206 : IVec S8x2048x2048 1 := broadcastInDim S8x2048x2048 ![0, 1, 2] bcast_S8x2048x1_S8x2048x2048_0_1_2 main_v205
  let main_v207 : IVec S8x2048x2048 1 := andi main_v191 main_v206
  let main_cst_59 : FVec F S_ .f32 := constant S_ .f32 0x02081CEA#32
  let main_v208 : FVec F S8x1x2048 .f32 := broadcastInDim S8x1x2048 ![] bcast_S_S8x1x2048 main_cst_59
  let main_v209 : IVec S8x1x2048 1 := cmpf .oge main_v203 main_v208
  let main_v210 : IVec S8x2048x2048 1 := broadcastInDim S8x2048x2048 ![0, 1, 2] bcast_S8x1x2048_S8x2048x2048_0_1_2 main_v209
  let main_v211 : IVec S8x2048x2048 1 := andi main_v207 main_v210
  let main_cst_60 : FVec F S_ .f32 := constant S_ .f32 0x3F800000#32
  let main_v212 : FVec F S8x1x2048 .f32 := broadcastInDim S8x1x2048 ![] bcast_S_S8x1x2048 main_cst_60
  let main_v213 : FVec F S8x1x2048 .f32 := Host.divf main_v212 main_v203
  let main_v214 : FVec F S8x2048x2048 .f32 := broadcastInDim S8x2048x2048 ![0, 1, 2] bcast_S8x1x2048_S8x2048x2048_0_1_2 main_v213
  let main_v215 : FVec F S8x2048x2048 .f32 := mulf main_v16 main_v214
  let main_cst_61 : FVec F S_ .f32 := constant S_ .f32 0x00000000#32
  let main_v216 : FVec F S8x2048 .f32 := (fun x v => Host.reduceAdd x v reducesTo_S8x2048x2048_S8x2048_d2 h_S_) main_v215 main_cst_61
  let main_v217 : FVec F S8x2048x1 .f32 := broadcastInDim S8x2048x1 ![0, 1] bcast_S8x2048_S8x2048x1_0_1 main_v216
  let main_cst_62 : FVec F S_ .f32 := constant S_ .f32 0x3F800000#32
  let main_v218 : FVec F S8x2048x1 .f32 := broadcastInDim S8x2048x1 ![] bcast_S_S8x2048x1 main_cst_62
  let main_v219 : FVec F S8x2048x1 .f32 := Host.divf main_v218 main_v217
  let main_v220 : FVec F S8x2048x2048 .f32 := broadcastInDim S8x2048x2048 ![0, 1, 2] bcast_S8x2048x1_S8x2048x2048_0_1_2 main_v219
  let main_v221 : FVec F S8x2048x2048 .f32 := mulf main_v16 main_v220
  let main_cst_63 : FVec F S_ .f32 := constant S_ .f32 0x00000000#32
  let main_v222 : FVec F S8x2048 .f32 := (fun x v => Host.reduceAdd x v reducesTo_S8x2048x2048_S8x2048_d1 h_S_) main_v221 main_cst_63
  fn_part12 (F := F) main_v16 main_v211 main_v217 main_v222

def fn_part10 {F : FTy → Type} [FloatOps F] (main_v16 : FVec F S8x2048x2048 .f32) (main_v171 : IVec S8x2048x2048 1) (main_v183 : FVec F S8x1x2048 .f32) (main_v185 : IVec S8x2048x1 1) : IVec S8x2048x2048 1 :=
  let main_v186 : IVec S8x2048x2048 1 := broadcastInDim S8x2048x2048 ![0, 1, 2] bcast_S8x2048x1_S8x2048x2048_0_1_2 main_v185
  let main_v187 : IVec S8x2048x2048 1 := andi main_v171 main_v186
  let main_cst_53 : FVec F S_ .f32 := constant S_ .f32 0x02081CEA#32
  let main_v188 : FVec F S8x1x2048 .f32 := broadcastInDim S8x1x2048 ![] bcast_S_S8x1x2048 main_cst_53
  let main_v189 : IVec S8x1x2048 1 := cmpf .oge main_v183 main_v188
  let main_v190 : IVec S8x2048x2048 1 := broadcastInDim S8x2048x2048 ![0, 1, 2] bcast_S8x1x2048_S8x2048x2048_0_1_2 main_v189
  let main_v191 : IVec S8x2048x2048 1 := andi main_v187 main_v190
  let main_cst_54 : FVec F S_ .f32 := constant S_ .f32 0x3F800000#32
  let main_v192 : FVec F S8x1x2048 .f32 := broadcastInDim S8x1x2048 ![] bcast_S_S8x1x2048 main_cst_54
  let main_v193 : FVec F S8x1x2048 .f32 := Host.divf main_v192 main_v183
  let main_v194 : FVec F S8x2048x2048 .f32 := broadcastInDim S8x2048x2048 ![0, 1, 2] bcast_S8x1x2048_S8x2048x2048_0_1_2 main_v193
  let main_v195 : FVec F S8x2048x2048 .f32 := mulf main_v16 main_v194
  let main_cst_55 : FVec F S_ .f32 := constant S_ .f32 0x00000000#32
  let main_v196 : FVec F S8x2048 .f32 := (fun x v => Host.reduceAdd x v reducesTo_S8x2048x2048_S8x2048_d2 h_S_) main_v195 main_cst_55
  let main_v197 : FVec F S8x2048x1 .f32 := broadcastInDim S8x2048x1 ![0, 1] bcast_S8x2048_S8x2048x1_0_1 main_v196
  let main_cst_56 : FVec F S_ .f32 := constant S_ .f32 0x3F800000#32
  let main_v198 : FVec F S8x2048x1 .f32 := broadcastInDim S8x2048x1 ![] bcast_S_S8x2048x1 main_cst_56
  let main_v199 : FVec F S8x2048x1 .f32 := Host.divf main_v198 main_v197
  let main_v200 : FVec F S8x2048x2048 .f32 := broadcastInDim S8x2048x2048 ![0, 1, 2] bcast_S8x2048x1_S8x2048x2048_0_1_2 main_v199
  let main_v201 : FVec F S8x2048x2048 .f32 := mulf main_v16 main_v200
  let main_cst_57 : FVec F S_ .f32 := constant S_ .f32 0x00000000#32
  let main_v202 : FVec F S8x2048 .f32 := (fun x v => Host.reduceAdd x v reducesTo_S8x2048x2048_S8x2048_d1 h_S_) main_v201 main_cst_57
  let main_v203 : FVec F S8x1x2048 .f32 := broadcastInDim S8x1x2048 ![0, 2] bcast_S8x2048_S8x1x2048_0_2 main_v202
  let main_cst_58 : FVec F S_ .f32 := constant S_ .f32 0x02081CEA#32
  fn_part11 (F := F) main_v16 main_v191 main_v197 main_v203 main_cst_58

def fn_part9 {F : FTy → Type} [FloatOps F] (main_v16 : FVec F S8x2048x2048 .f32) (main_v163 : FVec F S8x1x2048 .f32) (main_v167 : IVec S8x2048x2048 1) : IVec S8x2048x2048 1 :=
  let main_cst_47 : FVec F S_ .f32 := constant S_ .f32 0x02081CEA#32
  let main_v168 : FVec F S8x1x2048 .f32 := broadcastInDim S8x1x2048 ![] bcast_S_S8x1x2048 main_cst_47
  let main_v169 : IVec S8x1x2048 1 := cmpf .oge main_v163 main_v168
  let main_v170 : IVec S8x2048x2048 1 := broadcastInDim S8x2048x2048 ![0, 1, 2] bcast_S8x1x2048_S8x2048x2048_0_1_2 main_v169
  let main_v171 : IVec S8x2048x2048 1 := andi main_v167 main_v170
  let main_cst_48 : FVec F S_ .f32 := constant S_ .f32 0x3F800000#32
  let main_v172 : FVec F S8x1x2048 .f32 := broadcastInDim S8x1x2048 ![] bcast_S_S8x1x2048 main_cst_48
  let main_v173 : FVec F S8x1x2048 .f32 := Host.divf main_v172 main_v163
  let main_v174 : FVec F S8x2048x2048 .f32 := broadcastInDim S8x2048x2048 ![0, 1, 2] bcast_S8x1x2048_S8x2048x2048_0_1_2 main_v173
  let main_v175 : FVec F S8x2048x2048 .f32 := mulf main_v16 main_v174
  let main_cst_49 : FVec F S_ .f32 := constant S_ .f32 0x00000000#32
  let main_v176 : FVec F S8x2048 .f32 := (fun x v => Host.reduceAdd x v reducesTo_S8x2048x2048_S8x2048_d2 h_S_) main_v175 main_cst_49
  let main_v177 : FVec F S8x2048x1 .f32 := broadcastInDim S8x2048x1 ![0, 1] bcast_S8x2048_S8x2048x1_0_1 main_v176
  let main_cst_50 : FVec F S_ .f32 := constant S_ .f32 0x3F800000#32
  let main_v178 : FVec F S8x2048x1 .f32 := broadcastInDim S8x2048x1 ![] bcast_S_S8x2048x1 main_cst_50
  let main_v179 : FVec F S8x2048x1 .f32 := Host.divf main_v178 main_v177
  let main_v180 : FVec F S8x2048x2048 .f32 := broadcastInDim S8x2048x2048 ![0, 1, 2] bcast_S8x2048x1_S8x2048x2048_0_1_2 main_v179
  let main_v181 : FVec F S8x2048x2048 .f32 := mulf main_v16 main_v180
  let main_cst_51 : FVec F S_ .f32 := constant S_ .f32 0x00000000#32
  let main_v182 : FVec F S8x2048 .f32 := (fun x v => Host.reduceAdd x v reducesTo_S8x2048x2048_S8x2048_d1 h_S_) main_v181 main_cst_51
  let main_v183 : FVec F S8x1x2048 .f32 := broadcastInDim S8x1x2048 ![0, 2] bcast_S8x2048_S8x1x2048_0_2 main_v182
  let main_cst_52 : FVec F S_ .f32 := constant S_ .f32 0x02081CEA#32
  let main_v184 : FVec F S8x2048x1 .f32 := broadcastInDim S8x2048x1 ![] bcast_S_S8x2048x1 main_cst_52
  let main_v185 : IVec S8x2048x1 1 := cmpf .oge main_v177 main_v184
  fn_part10 (F := F) main_v16 main_v171 main_v183 main_v185

def fn_part8 {F : FTy → Type} [FloatOps F] (main_v16 : FVec F S8x2048x2048 .f32) (main_v143 : FVec F S8x1x2048 .f32) (main_v147 : IVec S8x2048x2048 1) (main_v148 : FVec F S8x1x2048 .f32) : IVec S8x2048x2048 1 :=
  let main_v149 : IVec S8x1x2048 1 := cmpf .oge main_v143 main_v148
  let main_v150 : IVec S8x2048x2048 1 := broadcastInDim S8x2048x2048 ![0, 1, 2] bcast_S8x1x2048_S8x2048x2048_0_1_2 main_v149
  let main_v151 : IVec S8x2048x2048 1 := andi main_v147 main_v150
  let main_cst_42 : FVec F S_ .f32 := constant S_ .f32 0x3F800000#32
  let main_v152 : FVec F S8x1x2048 .f32 := broadcastInDim S8x1x2048 ![] bcast_S_S8x1x2048 main_cst_42
  let main_v153 : FVec F S8x1x2048 .f32 := Host.divf main_v152 main_v143
  let main_v154 : FVec F S8x2048x2048 .f32 := broadcastInDim S8x2048x2048 ![0, 1, 2] bcast_S8x1x2048_S8x2048x2048_0_1_2 main_v153
  let main_v155 : FVec F S8x2048x2048 .f32 := mulf main_v16 main_v154
  let main_cst_43 : FVec F S_ .f32 := constant S_ .f32 0x00000000#32
  let main_v156 : FVec F S8x2048 .f32 := (fun x v => Host.reduceAdd x v reducesTo_S8x2048x2048_S8x2048_d2 h_S_) main_v155 main_cst_43
  let main_v157 : FVec F S8x2048x1 .f32 := broadcastInDim S8x2048x1 ![0, 1] bcast_S8x2048_S8x2048x1_0_1 main_v156
  let main_cst_44 : FVec F S_ .f32 := constant S_ .f32 0x3F800000#32
  let main_v158 : FVec F S8x2048x1 .f32 := broadcastInDim S8x2048x1 ![] bcast_S_S8x2048x1 main_cst_44
  let main_v159 : FVec F S8x2048x1 .f32 := Host.divf main_v158 main_v157
  let main_v160 : FVec F S8x2048x2048 .f32 := broadcastInDim S8x2048x2048 ![0, 1, 2] bcast_S8x2048x1_S8x2048x2048_0_1_2 main_v159
  let main_v161 : FVec F S8x2048x2048 .f32 := mulf main_v16 main_v160
  let main_cst_45 : FVec F S_ .f32 := constant S_ .f32 0x00000000#32
  let main_v162 : FVec F S8x2048 .f32 := (fun x v => Host.reduceAdd x v reducesTo_S8x2048x2048_S8x2048_d1 h_S_) main_v161 main_cst_45
  let main_v163 : FVec F S8x1x2048 .f32 := broadcastInDim S8x1x2048 ![0, 2] bcast_S8x2048_S8x1x2048_0_2 main_v162
  let main_cst_46 : FVec F S_ .f32 := constant S_ .f32 0x02081CEA#32
  let main_v164 : FVec F S8x2048x1 .f32 := broadcastInDim S8x2048x1 ![] bcast_S_S8x2048x1 main_cst_46
  let main_v165 : IVec S8x2048x1 1 := cmpf .oge main_v157 main_v164
  let main_v166 : IVec S8x2048x2048 1 := broadcastInDim S8x2048x2048 ![0, 1, 2] bcast_S8x2048x1_S8x2048x2048_0_1_2 main_v165
  let main_v167 : IVec S8x2048x2048 1 := andi main_v151 main_v166
  fn_part9 (F := F) main_v16 main_v163 main_v167

def fn_part7 {F : FTy → Type} [FloatOps F] (main_v16 : FVec F S8x2048x2048 .f32) (main_v123 : FVec F S8x1x2048 .f32) (main_v127 : IVec S8x2048x2048 1) (main_v130 : IVec S8x2048x2048 1) : IVec S8x2048x2048 1 :=
  let main_v131 : IVec S8x2048x2048 1 := andi main_v127 main_v130
  let main_cst_36 : FVec F S_ .f32 := constant S_ .f32 0x3F800000#32
  let main_v132 : FVec F S8x1x2048 .f32 := broadcastInDim S8x1x2048 ![] bcast_S_S8x1x2048 main_cst_36
  let main_v133 : FVec F S8x1x2048 .f32 := Host.divf main_v132 main_v123
  let main_v134 : FVec F S8x2048x2048 .f32 := broadcastInDim S8x2048x2048 ![0, 1, 2] bcast_S8x1x2048_S8x2048x2048_0_1_2 main_v133
  let main_v135 : FVec F S8x2048x2048 .f32 := mulf main_v16 main_v134
  let main_cst_37 : FVec F S_ .f32 := constant S_ .f32 0x00000000#32
  let main_v136 : FVec F S8x2048 .f32 := (fun x v => Host.reduceAdd x v reducesTo_S8x2048x2048_S8x2048_d2 h_S_) main_v135 main_cst_37
  let main_v137 : FVec F S8x2048x1 .f32 := broadcastInDim S8x2048x1 ![0, 1] bcast_S8x2048_S8x2048x1_0_1 main_v136
  let main_cst_38 : FVec F S_ .f32 := constant S_ .f32 0x3F800000#32
  let main_v138 : FVec F S8x2048x1 .f32 := broadcastInDim S8x2048x1 ![] bcast_S_S8x2048x1 main_cst_38
  let main_v139 : FVec F S8x2048x1 .f32 := Host.divf main_v138 main_v137
  let main_v140 : FVec F S8x2048x2048 .f32 := broadcastInDim S8x2048x2048 ![0, 1, 2] bcast_S8x2048x1_S8x2048x2048_0_1_2 main_v139
  let main_v141 : FVec F S8x2048x2048 .f32 := mulf main_v16 main_v140
  let main_cst_39 : FVec F S_ .f32 := constant S_ .f32 0x00000000#32
  let main_v142 : FVec F S8x2048 .f32 := (fun x v => Host.reduceAdd x v reducesTo_S8x2048x2048_S8x2048_d1 h_S_) main_v141 main_cst_39
  let main_v143 : FVec F S8x1x2048 .f32 := broadcastInDim S8x1x2048 ![0, 2] bcast_S8x2048_S8x1x2048_0_2 main_v142
  let main_cst_40 : FVec F S_ .f32 := constant S_ .f32 0x02081CEA#32
  let main_v144 : FVec F S8x2048x1 .f32 := broadcastInDim S8x2048x1 ![] bcast_S_S8x2048x1 main_cst_40
  let main_v145 : IVec S8x2048x1 1 := cmpf .oge main_v137 main_v144
  let main_v146 : IVec S8x2048x2048 1 := broadcastInDim S8x2048x2048 ![0, 1, 2] bcast_S8x2048x1_S8x2048x2048_0_1_2 main_v145
  let main_v147 : IVec S8x2048x2048 1 := andi main_v131 main_v146
  let main_cst_41 : FVec F S_ .f32 := constant S_ .f32 0x02081CEA#32
  let main_v148 : FVec F S8x1x2048 .f32 := broadcastInDim S8x1x2048 ![] bcast_S_S8x1x2048 main_cst_41
  fn_part8 (F := F) main_v16 main_v143 main_v147 main_v148

def fn_part6 {F : FTy → Type} [FloatOps F] (main_v16 : FVec F S8x2048x2048 .f32) (main_v103 : FVec F S8x1x2048 .f32) (main_v111 : IVec S8x2048x2048 1) (main_cst_30 : FVec F S_ .f32) : IVec S8x2048x2048 1 :=
  let main_v112 : FVec F S8x1x2048 .f32 := broadcastInDim S8x1x2048 ![] bcast_S_S8x1x2048 main_cst_30
  let main_v113 : FVec F S8x1x2048 .f32 := Host.divf main_v112 main_v103
  let main_v114 : FVec F S8x2048x2048 .f32 := broadcastInDim S8x2048x2048 ![0, 1, 2] bcast_S8x1x2048_S8x2048x2048_0_1_2 main_v113
  let main_v115 : FVec F S8x2048x2048 .f32 := mulf main_v16 main_v114
  let main_cst_31 : FVec F S_ .f32 := constant S_ .f32 0x00000000#32
  let main_v116 : FVec F S8x2048 .f32 := (fun x v => Host.reduceAdd x v reducesTo_S8x2048x2048_S8x2048_d2 h_S_) main_v115 main_cst_31
  let main_v117 : FVec F S8x2048x1 .f32 := broadcastInDim S8x2048x1 ![0, 1] bcast_S8x2048_S8x2048x1_0_1 main_v116
  let main_cst_32 : FVec F S_ .f32 := constant S_ .f32 0x3F800000#32
  let main_v118 : FVec F S8x2048x1 .f32 := broadcastInDim S8x2048x1 ![] bcast_S_S8x2048x1 main_cst_32
  let main_v119 : FVec F S8x2048x1 .f32 := Host.divf main_v118 main_v117
  let main_v120 : FVec F S8x2048x2048 .f32 := broadcastInDim S8x2048x2048 ![0, 1, 2] bcast_S8x2048x1_S8x2048x2048_0_1_2 main_v119
  let main_v121 : FVec F S8x2048x2048 .f32 := mulf main_v16 main_v120
  let main_cst_33 : FVec F S_ .f32 := constant S_ .f32 0x00000000#32
  let main_v122 : FVec F S8x2048 .f32 := (fun x v => Host.reduceAdd x v reducesTo_S8x2048x2048_S8x2048_d1 h_S_) main_v121 main_cst_33
  let main_v123 : FVec F S8x1x2048 .f32 := broadcastInDim S8x1x2048 ![0, 2] bcast_S8x2048_S8x1x2048_0_2 main_v122
  let main_cst_34 : FVec F S_ .f32 := constant S_ .f32 0x02081CEA#32
  let main_v124 : FVec F S8x2048x1 .f32 := broadcastInDim S8x2048x1 ![] bcast_S_S8x2048x1 main_cst_34
  let main_v125 : IVec S8x2048x1 1 := cmpf .oge main_v117 main_v124
  let main_v126 : IVec S8x2048x2048 1 := broadcastInDim S8x2048x2048 ![0, 1, 2] bcast_S8x2048x1_S8x2048x2048_0_1_2 main_v125
  let main_v127 : IVec S8x2048x2048 1 := andi main_v111 main_v126
  let main_cst_35 : FVec F S_ .f32 := constant S_ .f32 0x02081CEA#32
  let main_v128 : FVec F S8x1x2048 .f32 := broadcastInDim S8x1x2048 ![] bcast_S_S8x1x2048 main_cst_35
  let main_v129 : IVec S8x1x2048 1 := cmpf .oge main_v123 main_v128
  let main_v130 : IVec S8x2048x2048 1 := broadcastInDim S8x2048x2048 ![0, 1, 2] bcast_S8x1x2048_S8x2048x2048_0_1_2 main_v129
  fn_part7 (F := F) main_v16 main_v123 main_v127 main_v130

def fn_part5 {F : FTy → Type} [FloatOps F] (main_v16 : FVec F S8x2048x2048 .f32) (main_v91 : IVec S8x2048x2048 1) (main_v93 : FVec F S8x1x2048 .f32) : IVec S8x2048x2048 1 :=
  let main_v94 : FVec F S8x2048x2048 .f32 := broadcastInDim S8x2048x2048 ![0, 1, 2] bcast_S8x1x2048_S8x2048x2048_0_1_2 main_v93
  let main_v95 : FVec F S8x2048x2048 .f32 := mulf main_v16 main_v94
  let main_cst_25 : FVec F S_ .f32 := constant S_ .f32 0x00000000#32
  let main_v96 : FVec F S8x2048 .f32 := (fun x v => Host.reduceAdd x v reducesTo_S8x2048x2048_S8x2048_d2 h_S_) main_v95 main_cst_25
  let main_v97 : FVec F S8x2048x1 .f32 := broadcastInDim S8x2048x1 ![0, 1] bcast_S8x2048_S8x2048x1_0_1 main_v96
  let main_cst_26 : FVec F S_ .f32 := constant S_ .f32 0x3F800000#32
  let main_v98 : FVec F S8x2048x1 .f32 := broadcastInDim S8x2048x1 ![] bcast_S_S8x2048x1 main_cst_26
  let main_v99 : FVec F S8x2048x1 .f32 := Host.divf main_v98 main_v97
  let main_v100 : FVec F S8x2048x2048 .f32 := broadcastInDim S8x2048x2048 ![0, 1, 2] bcast_S8x2048x1_S8x2048x2048_0_1_2 main_v99
  let main_v101 : FVec F S8x2048x2048 .f32 := mulf main_v16 main_v100
  let main_cst_27 : FVec F S_ .f32 := constant S_ .f32 0x00000000#32
  let main_v102 : FVec F S8x2048 .f32 := (fun x v => Host.reduceAdd x v reducesTo_S8x2048x2048_S8x2048_d1 h_S_) main_v101 main_cst_27
  let main_v103 : FVec F S8x1x2048 .f32 := broadcastInDim S8x1x2048 ![0, 2] bcast_S8x2048_S8x1x2048_0_2 main_v102
  let main_cst_28 : FVec F S_ .f32 := constant S_ .f32 0x02081CEA#32
  let main_v104 : FVec F S8x2048x1 .f32 := broadcastInDim S8x2048x1 ![] bcast_S_S8x2048x1 main_cst_28
  let main_v105 : IVec S8x2048x1 1 := cmpf .oge main_v97 main_v104
  let main_v106 : IVec S8x2048x2048 1 := broadcastInDim S8x2048x2048 ![0, 1, 2] bcast_S8x2048x1_S8x2048x2048_0_1_2 main_v105
  let main_v107 : IVec S8x2048x2048 1 := andi main_v91 main_v106
  let main_cst_29 : FVec F S_ .f32 := constant S_ .f32 0x02081CEA#32
  let main_v108 : FVec F S8x1x2048 .f32 := broadcastInDim S8x1x2048 ![] bcast_S_S8x1x2048 main_cst_29
  let main_v109 : IVec S8x1x2048 1 := cmpf .oge main_v103 main_v108
  let main_v110 : IVec S8x2048x2048 1 := broadcastInDim S8x2048x2048 ![0, 1, 2] bcast_S8x1x2048_S8x2048x2048_0_1_2 main_v109
  let main_v111 : IVec S8x2048x2048 1 := andi main_v107 main_v110
  let main_cst_30 : FVec F S_ .f32 := constant S_ .f32 0x3F800000#32
  fn_part6 (F := F) main_v16 main_v103 main_v111 main_cst_30

def fn_part4 {F : FTy → Type} [FloatOps F] (main_v16 : FVec F S8x2048x2048 .f32) (main_v71 : IVec S8x2048x2048 1) (main_v75 : FVec F S8x2048x2048 .f32) : IVec S8x2048x2048 1 :=
  let main_cst_19 : FVec F S_ .f32 := constant S_ .f32 0x00000000#32
  let main_v76 : FVec F S8x2048 .f32 := (fun x v => Host.reduceAdd x v reducesTo_S8x2048x2048_S8x2048_d2 h_S_) main_v75 main_cst_19
  let main_v77 : FVec F S8x2048x1 .f32 := broadcastInDim S8x2048x1 ![0, 1] bcast_S8x2048_S8x2048x1_0_1 main_v76
  let main_cst_20 : FVec F S_ .f32 := constant S_ .f32 0x3F800000#32
  let main_v78 : FVec F S8x2048x1 .f32 := broadcastInDim S8x2048x1 ![] bcast_S_S8x2048x1 main_cst_20
  let main_v79 : FVec F S8x2048x1 .f32 := Host.divf main_v78 main_v77
  let main_v80 : FVec F S8x2048x2048 .f32 := broadcastInDim S8x2048x2048 ![0, 1, 2] bcast_S8x2048x1_S8x2048x2048_0_1_2 main_v79
  let main_v81 : FVec F S8x2048x2048 .f32 := mulf main_v16 main_v80
  let main_cst_21 : FVec F S_ .f32 := constant S_ .f32 0x00000000#32
  let main_v82 : FVec F S8x2048 .f32 := (fun x v => Host.reduceAdd x v reducesTo_S8x2048x2048_S8x2048_d1 h_S_) main_v81 main_cst_21
  let main_v83 : FVec F S8x1x2048 .f32 := broadcastInDim S8x1x2048 ![0, 2] bcast_S8x2048_S8x1x2048_0_2 main_v82
  let main_cst_22 : FVec F S_ .f32 := constant S_ .f32 0x02081CEA#32
  let main_v84 : FVec F S8x2048x1 .f32 := broadcastInDim S8x2048x1 ![] bcast_S_S8x2048x1 main_cst_22
  let main_v85 : IVec S8x2048x1 1 := cmpf .oge main_v77 main_v84
  let main_v86 : IVec S8x2048x2048 1 := broadcastInDim S8x2048x2048 ![0, 1, 2] bcast_S8x2048x1_S8x2048x2048_0_1_2 main_v85
  let main_v87 : IVec S8x2048x2048 1 := andi main_v71 main_v86
  let main_cst_23 : FVec F S_ .f32 := constant S_ .f32 0x02081CEA#32
  let main_v88 : FVec F S8x1x2048 .f32 := broadcastInDim S8x1x2048 ![] bcast_S_S8x1x2048 main_cst_23
  let main_v89 : IVec S8x1x2048 1 := cmpf .oge main_v83 main_v88
  let main_v90 : IVec S8x2048x2048 1 := broadcastInDim S8x2048x2048 ![0, 1, 2] bcast_S8x1x2048_S8x2048x2048_0_1_2 main_v89
  let main_v91 : IVec S8x2048x2048 1 := andi main_v87 main_v90
  let main_cst_24 : FVec F S_ .f32 := constant S_ .f32 0x3F800000#32
  let main_v92 : FVec F S8x1x2048 .f32 := broadcastInDim S8x1x2048 ![] bcast_S_S8x1x2048 main_cst_24
  let main_v93 : FVec F S8x1x2048 .f32 := Host.divf main_v92 main_v83
  fn_part5 (F := F) main_v16 main_v91 main_v93

def fn_part3 {F : FTy → Type} [FloatOps F] (main_v16 : FVec F S8x2048x2048 .f32) (main_v51 : IVec S8x2048x2048 1) (main_v56 : FVec F S8x2048 .f32) : IVec S8x2048x2048 1 :=
  let main_v57 : FVec F S8x2048x1 .f32 := broadcastInDim S8x2048x1 ![0, 1] bcast_S8x2048_S8x2048x1_0_1 main_v56
  let main_cst_14 : FVec F S_ .f32 := constant S_ .f32 0x3F800000#32
  let main_v58 : FVec F S8x2048x1 .f32 := broadcastInDim S8x2048x1 ![] bcast_S_S8x2048x1 main_cst_14
  let main_v59 : FVec F S8x2048x1 .f32 := Host.divf main_v58 main_v57
  let main_v60 : FVec F S8x2048x2048 .f32 := broadcastInDim S8x2048x2048 ![0, 1, 2] bcast_S8x2048x1_S8x2048x2048_0_1_2 main_v59
  let main_v61 : FVec F S8x2048x2048 .f32 := mulf main_v16 main_v60
  let main_cst_15 : FVec F S_ .f32 := constant S_ .f32 0x00000000#32
  let main_v62 : FVec F S8x2048 .f32 := (fun x v => Host.reduceAdd x v reducesTo_S8x2048x2048_S8x2048_d1 h_S_) main_v61 main_cst_15
  let main_v63 : FVec F S8x1x2048 .f32 := broadcastInDim S8x1x2048 ![0, 2] bcast_S8x2048_S8x1x2048_0_2 main_v62
  let main_cst_16 : FVec F S_ .f32 := constant S_ .f32 0x02081CEA#32
  let main_v64 : FVec F S8x2048x1 .f32 := broadcastInDim S8x2048x1 ![] bcast_S_S8x2048x1 main_cst_16
  let main_v65 : IVec S8x2048x1 1 := cmpf .oge main_v57 main_v64
  let main_v66 : IVec S8x2048x2048 1 := broadcastInDim S8x2048x2048 ![0, 1, 2] bcast_S8x2048x1_S8x2048x2048_0_1_2 main_v65
  let main_v67 : IVec S8x2048x2048 1 := andi main_v51 main_v66
  let main_cst_17 : FVec F S_ .f32 := constant S_ .f32 0x02081CEA#32
  let main_v68 : FVec F S8x1x2048 .f32 := broadcastInDim S8x1x2048 ![] bcast_S_S8x1x2048 main_cst_17
  let main_v69 : IVec S8x1x2048 1 := cmpf .oge main_v63 main_v68
  let main_v70 : IVec S8x2048x2048 1 := broadcastInDim S8x2048x2048 ![0, 1, 2] bcast_S8x1x2048_S8x2048x2048_0_1_2 main_v69
  let main_v71 : IVec S8x2048x2048 1 := andi main_v67 main_v70
  let main_cst_18 : FVec F S_ .f32 := constant S_ .f32 0x3F800000#32
  let main_v72 : FVec F S8x1x2048 .f32 := broadcastInDim S8x1x2048 ![] bcast_S_S8x1x2048 main_cst_18
  let main_v73 : FVec F S8x1x2048 .f32 := Host.divf main_v72 main_v63
  let main_v74 : FVec F S8x2048x2048 .f32 := broadcastInDim S8x2048x2048 ![0, 1, 2] bcast_S8x1x2048_S8x2048x2048_0_1_2 main_v73
  let main_v75 : FVec F S8x2048x2048 .f32 := mulf main_v16 main_v74
  fn_part4 (F := F) main_v16 main_v71 main_v75

def fn_part2 {F : FTy → Type} [FloatOps F] (main_v16 : FVec F S8x2048x2048 .f32) (main_v31 : IVec S8x2048x2048 1) (main_v37 : FVec F S8x2048x1 .f32) (main_cst_8 : FVec F S_ .f32) : IVec S8x2048x2048 1 :=
  let main_v38 : FVec F S8x2048x1 .f32 := broadcastInDim S8x2048x1 ![] bcast_S_S8x2048x1 main_cst_8
  let main_v39 : FVec F S8x2048x1 .f32 := Host.divf main_v38 main_v37
  let main_v40 : FVec F S8x2048x2048 .f32 := broadcastInDim S8x2048x2048 ![0, 1, 2] bcast_S8x2048x1_S8x2048x2048_0_1_2 main_v39
  let main_v41 : FVec F S8x2048x2048 .f32 := mulf main_v16 main_v40
  let main_cst_9 : FVec F S_ .f32 := constant S_ .f32 0x00000000#32
  let main_v42 : FVec F S8x2048 .f32 := (fun x v => Host.reduceAdd x v reducesTo_S8x2048x2048_S8x2048_d1 h_S_) main_v41 main_cst_9
  let main_v43 : FVec F S8x1x2048 .f32 := broadcastInDim S8x1x2048 ![0, 2] bcast_S8x2048_S8x1x2048_0_2 main_v42
  let main_cst_10 : FVec F S_ .f32 := constant S_ .f32 0x02081CEA#32
  let main_v44 : FVec F S8x2048x1 .f32 := broadcastInDim S8x2048x1 ![] bcast_S_S8x2048x1 main_cst_10
  let main_v45 : IVec S8x2048x1 1 := cmpf .oge main_v37 main_v44
  let main_v46 : IVec S8x2048x2048 1 := broadcastInDim S8x2048x2048 ![0, 1, 2] bcast_S8x2048x1_S8x2048x2048_0_1_2 main_v45
  let main_v47 : IVec S8x2048x2048 1 := andi main_v31 main_v46
  let main_cst_11 : FVec F S_ .f32 := constant S_ .f32 0x02081CEA#32
  let main_v48 : FVec F S8x1x2048 .f32 := broadcastInDim S8x1x2048 ![] bcast_S_S8x1x2048 main_cst_11
  let main_v49 : IVec S8x1x2048 1 := cmpf .oge main_v43 main_v48
  let main_v50 : IVec S8x2048x2048 1 := broadcastInDim S8x2048x2048 ![0, 1, 2] bcast_S8x1x2048_S8x2048x2048_0_1_2 main_v49
  let main_v51 : IVec S8x2048x2048 1 := andi main_v47 main_v50
  let main_cst_12 : FVec F S_ .f32 := constant S_ .f32 0x3F800000#32
  let main_v52 : FVec F S8x1x2048 .f32 := broadcastInDim S8x1x2048 ![] bcast_S_S8x1x2048 main_cst_12
  let main_v53 : FVec F S8x1x2048 .f32 := Host.divf main_v52 main_v43
  let main_v54 : FVec F S8x2048x2048 .f32 := broadcastInDim S8x2048x2048 ![0, 1, 2] bcast_S8x1x2048_S8x2048x2048_0_1_2 main_v53
  let main_v55 : FVec F S8x2048x2048 .f32 := mulf main_v16 main_v54
  let main_cst_13 : FVec F S_ .f32 := constant S_ .f32 0x00000000#32
  let main_v56 : FVec F S8x2048 .f32 := (fun x v => Host.reduceAdd x v reducesTo_S8x2048x2048_S8x2048_d2 h_S_) main_v55 main_cst_13
  fn_part3 (F := F) main_v16 main_v51 main_v56

def fn_part1 {F : FTy → Type} [FloatOps F] (main_arg1 : FVec F S2048x2048 .f32) (main_v16 : FVec F S8x2048x2048 .f32) (main_v18 : FVec F S8x1x2048 .f32) (main_v19 : FVec F S8x2048x2048 .f32) : IVec S8x2048x2048 1 :=
  let main_cst_3 : FVec F S_ .f32 := constant S_ .f32 0x7F800000#32
  let main_v20 : FVec F S8x2048x2048 .f32 := broadcastInDim S8x2048x2048 ![] bcast_S_S8x2048x2048 main_cst_3
  let main_v21 : IVec S8x2048x2048 1 := cmpf .olt main_v19 main_v20
  let main_v22 : FVec F S2048x2048 .f32 := Host.absf main_arg1
  let main_v23 : FVec F S1x2048x2048 .f32 := broadcastInDim S1x2048x2048 ![1, 2] bcast_S2048x2048_S1x2048x2048_1_2 main_v22
  let main_cst_4 : FVec F S_ .f32 := constant S_ .f32 0x7F800000#32
  let main_v24 : FVec F S1x2048x2048 .f32 := broadcastInDim S1x2048x2048 ![] bcast_S_S1x2048x2048 main_cst_4
  let main_v25 : IVec S1x2048x2048 1 := cmpf .olt main_v23 main_v24
  let main_v26 : IVec S8x2048x2048 1 := broadcastInDim S8x2048x2048 ![0, 1, 2] bcast_S1x2048x2048_S8x2048x2048_0_1_2 main_v25
  let main_v27 : IVec S8x2048x2048 1 := andi main_v21 main_v26
  let main_cst_5 : FVec F S_ .f32 := constant S_ .f32 0x02081CEA#32
  let main_v28 : FVec F S8x1x2048 .f32 := broadcastInDim S8x1x2048 ![] bcast_S_S8x1x2048 main_cst_5
  let main_v29 : IVec S8x1x2048 1 := cmpf .oge main_v18 main_v28
  let main_v30 : IVec S8x2048x2048 1 := broadcastInDim S8x2048x2048 ![0, 1, 2] bcast_S8x1x2048_S8x2048x2048_0_1_2 main_v29
  let main_v31 : IVec S8x2048x2048 1 := andi main_v27 main_v30
  let main_cst_6 : FVec F S_ .f32 := constant S_ .f32 0x3F800000#32
  let main_v32 : FVec F S8x1x2048 .f32 := broadcastInDim S8x1x2048 ![] bcast_S_S8x1x2048 main_cst_6
  let main_v33 : FVec F S8x1x2048 .f32 := Host.divf main_v32 main_v18
  let main_v34 : FVec F S8x2048x2048 .f32 := broadcastInDim S8x2048x2048 ![0, 1, 2] bcast_S8x1x2048_S8x2048x2048_0_1_2 main_v33
  let main_v35 : FVec F S8x2048x2048 .f32 := mulf main_v16 main_v34
  let main_cst_7 : FVec F S_ .f32 := constant S_ .f32 0x00000000#32
  let main_v36 : FVec F S8x2048 .f32 := (fun x v => Host.reduceAdd x v reducesTo_S8x2048x2048_S8x2048_d2 h_S_) main_v35 main_cst_7
  let main_v37 : FVec F S8x2048x1 .f32 := broadcastInDim S8x2048x1 ![0, 1] bcast_S8x2048_S8x2048x1_0_1 main_v36
  let main_cst_8 : FVec F S_ .f32 := constant S_ .f32 0x3F800000#32
  fn_part2 (F := F) main_v16 main_v31 main_v37 main_cst_8

def fn {F : FTy → Type} [FloatOps F] (main_arg0 : FVec F S8x2048x2048 .f32) (main_arg1 : FVec F S2048x2048 .f32) : IVec S8x2048x2048 1 :=
  let main_v0 : FVec F S1x2048x2048 .f32 := broadcastInDim S1x2048x2048 ![1, 2] bcast_S2048x2048_S1x2048x2048_1_2 main_arg1
  let main_v1 : FVec F S8x2048x2048 .f32 := broadcastInDim S8x2048x2048 ![0, 1, 2] bcast_S1x2048x2048_S8x2048x2048_0_1_2 main_v0
  let main_v2 : FVec F S8x2048x2048 .f32 := addf main_v1 main_arg0
  let main_cst : FVec F S_ .f32 := constant S_ .f32 0x3DCCCCCD#32
  let main_v3 : FVec F S8x2048x2048 .f32 := broadcastInDim S8x2048x2048 ![] bcast_S_S8x2048x2048 main_cst
  let main_v4 : FVec F S8x2048x2048 .f32 := Host.divf main_v2 main_v3
  let main_cst_0 : FVec F S_ .f32 := constant S_ .f32 0xFF800000#32
  let main_v5 : FVec F S8x2048 .f32 := (fun x v => Host.reduce FloatOps.maximumf x v reducesTo_S8x2048x2048_S8x2048_d2 h_S_) main_v4 main_cst_0
  let main_v6 : FVec F S8x2048x1 .f32 := broadcastInDim S8x2048x1 ![0, 1] bcast_S8x2048_S8x2048x1_0_1 main_v5
  let main_v7 : FVec F S8x2048x2048 .f32 := broadcastInDim S8x2048x2048 ![0, 1, 2] bcast_S8x2048x1_S8x2048x2048_0_1_2 main_v6
  let main_v8 : FVec F S8x2048x2048 .f32 := subf main_v4 main_v7
  let main_v9 : FVec F S8x2048x2048 .f32 := Host.exp main_v8
  let main_cst_1 : FVec F S_ .f32 := constant S_ .f32 0x00000000#32
  let main_v10 : FVec F S8x2048 .f32 := (fun x v => Host.reduceAdd x v reducesTo_S8x2048x2048_S8x2048_d2 h_S_) main_v9 main_cst_1
  let main_v11 : FVec F S8x2048x1 .f32 := broadcastInDim S8x2048x1 ![0, 1] bcast_S8x2048_S8x2048x1_0_1 main_v10
  let main_v12 : FVec F S8x2048x1 .f32 := Host.log main_v11
  let main_v13 : FVec F S8x2048x1 .f32 := addf main_v12 main_v6
  let main_v14 : FVec F S8x2048x2048 .f32 := broadcastInDim S8x2048x2048 ![0, 1, 2] bcast_S8x2048x1_S8x2048x2048_0_1_2 main_v13
  let main_v15 : FVec F S8x2048x2048 .f32 := subf main_v4 main_v14
  let main_v16 : FVec F S8x2048x2048 .f32 := Host.exp main_v15
  let main_cst_2 : FVec F S_ .f32 := constant S_ .f32 0x00000000#32
  let main_v17 : FVec F S8x2048 .f32 := (fun x v => Host.reduceAdd x v reducesTo_S8x2048x2048_S8x2048_d1 h_S_) main_v16 main_cst_2
  let main_v18 : FVec F S8x1x2048 .f32 := broadcastInDim S8x1x2048 ![0, 2] bcast_S8x2048_S8x1x2048_0_2 main_v17
  let main_v19 : FVec F S8x2048x2048 .f32 := Host.absf main_arg0
  fn_part1 (F := F) main_arg1 main_v16 main_v18 main_v19
-- ==== Kernel.lean ====
abbrev S8x2048x2048 : Shape := ⟨3, ![8, 2048, 2048]⟩
abbrev S2048x2048 : Shape := ⟨2, ![2048, 2048]⟩
abbrev S2x2048x2048 : Shape := ⟨3, ![2, 2048, 2048]⟩
abbrev S_ : Shape := ⟨0, ![]⟩
abbrev S1x2048x2048 : Shape := ⟨3, ![1, 2048, 2048]⟩
abbrev S1x2048 : Shape := ⟨2, ![1, 2048]⟩
abbrev S2048 : Shape := ⟨1, ![2048]⟩
abbrev S2048x1 : Shape := ⟨2, ![2048, 1]⟩
abbrev S8x2048 : Shape := ⟨2, ![8, 2048]⟩
abbrev S256x8x2048 : Shape := ⟨3, ![256, 8, 2048]⟩

abbrev nBuf : Space → Nat
  | .hbm => 3
  | .vmem => 2
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S8x2048x2048, .f32⟩
  | .local _ .vmem, ⟨0, _⟩ => ⟨S2x2048x2048, .f32⟩
  | .local _ .vmem, ⟨1, _⟩ => ⟨S2048x2048, .f32⟩
  | _, _ => ⟨S8x2048x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let c0_i32_1 : BitVec 32 := 0#32
  let c0_i32_2 : BitVec 32 := 0#32
  ![v0.toNat, 0, 0]
def k0_off2 (i : grid0.Coords) : Fin 3 → Nat :=
  let arg0 : BitVec 32 := BitVec.ofNat 32 (i 0).val
  let c0_i32_3 : BitVec 32 := 0#32
  let c0_i32_4 : BitVec 32 := 0#32
  ![arg0.toNat, 0, 0]
def k0_off3 : Fin 2 → Nat :=
  let c0_i32_7 : BitVec 32 := 0#32
  let c2048_i32 : BitVec 32 := 2048#32
  let v13 : BitVec 32 := Scalar.muli c0_i32_7 c2048_i32
  let v16 : Index := Scalar.indexCast v13
  let c0 : Index := 0#32
  ![v16.toNat, 0]
def k0_cond3 (i : grid0.Coords) : BitVec 1 :=
  let arg0 : BitVec 32 := BitVec.ofNat 32 (i 0).val
  let c1_i32_22 : BitVec 32 := 1#32
  let v47 : BitVec 1 := Scalar.cmpi .sge arg0 c1_i32_22
  let v48 : BitVec 32 := Scalar.extui v47
  let c0_i32_23 : BitVec 32 := 0#32
  let v49 : BitVec 1 := Scalar.cmpi .ne v48 c0_i32_23
  v49

def k0_off4 (i : grid0.Coords) : Fin 3 → Nat :=
  let arg0 : BitVec 32 := BitVec.ofNat 32 (i 0).val
  let c1_i32_62 : BitVec 32 := 1#32
  let v111 : BitVec 32 := Scalar.subi arg0 c1_i32_62
  let c0_i32_63 : BitVec 32 := 0#32
  let c0_i32_64 : BitVec 32 := 0#32
  ![v111.toNat, 0, 0]
def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_65 : BitVec 32 := 0#32
  let c0_i32_66 : BitVec 32 := 0#32
  ![v1.toNat, 0, 0]
def k0_cond4 (i : grid0.Coords) : BitVec 1 :=
  let arg0 : BitVec 32 := BitVec.ofNat 32 (i 0).val
  let c1_i32_24 : BitVec 32 := 1#32
  let v50 : BitVec 32 := Scalar.addi arg0 c1_i32_24
  let c8_i32 : BitVec 32 := 8#32
  let v51 : BitVec 1 := Scalar.cmpi .slt v50 c8_i32
  let v52 : BitVec 32 := Scalar.extui v51
  let c0_i32_25 : BitVec 32 := 0#32
  let v53 : BitVec 1 := Scalar.cmpi .ne v52 c0_i32_25
  v53

def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_63 : BitVec 32 := 0#32
  let c0_i32_64 : BitVec 32 := 0#32
  ![v1.toNat, 0, 0]
def k0_off7 (i : grid0.Coords) : Fin 3 → Nat :=
  let arg0 : BitVec 32 := BitVec.ofNat 32 (i 0).val
  let c1_i32_62 : BitVec 32 := 1#32
  let v111 : BitVec 32 := Scalar.addi arg0 c1_i32_62
  let c0_i32_65 : BitVec 32 := 0#32
  let c0_i32_66 : BitVec 32 := 0#32
  ![v111.toNat, 0, 0]
@[reducible] def k0_t1_loop : Scf.Loop 32 :=
  let c0_i32_26 : BitVec 32 := 0#32
  let c18_i32 : BitVec 32 := 18#32
  let v54 : BitVec 32 := Scalar.addi c0_i32_26 c18_i32
  let c1_i32_27 : BitVec 32 := 1#32
  ⟨c0_i32_26, v54, c1_i32_27⟩
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_65 : BitVec 32 := 0#32
  let c0_i32_66 : BitVec 32 := 0#32
  ![v0.toNat, 0, 0]
def k0_off9 : Fin 2 → Nat :=
  let c0_i32_63 : BitVec 32 := 0#32
  let c2048_i32_64 : BitVec 32 := 2048#32
  let v112 : BitVec 32 := Scalar.muli c0_i32_63 c2048_i32_64
  let v115 : Index := Scalar.indexCast v112
  let c0_67 : Index := 0#32
  ![v115.toNat, 0]
def k0_cond5 (i : grid0.Coords) : BitVec 1 :=
  let arg0 : BitVec 32 := BitVec.ofNat 32 (i 0).val
  let c7_i32 : BitVec 32 := 7#32
  let v108 : BitVec 1 := Scalar.cmpi .eq arg0 c7_i32
  let v109 : BitVec 32 := Scalar.extui v108
  let c0_i32_61 : BitVec 32 := 0#32
  let v110 : BitVec 1 := Scalar.cmpi .ne v109 c0_i32_61
  v110

def k0_off10 (i : grid0.Coords) : Fin 3 → Nat :=
  let arg0 : BitVec 32 := BitVec.ofNat 32 (i 0).val
  let c0_i32_62 : BitVec 32 := 0#32
  let c0_i32_63 : BitVec 32 := 0#32
  ![arg0.toNat, 0, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_64 : BitVec 32 := 0#32
  let c0_i32_65 : BitVec 32 := 0#32
  ![v0.toNat, 0, 0]
-- ==== KernelIdeal.lean ====
variable {F : FTy → Type} [FloatOps F] [Named F]
def κ : String → Option EReal := fun
  | "no_floor" => some ⊥
  | "scale" => some ((((13421773 / 134217728) * (Real.log 2))⁻¹ : ℝ) : EReal)
  | _ => none
-- ==== ReferenceIdeal.lean ====
abbrev S8x2048x2048 : Shape := ⟨3, ![8, 2048, 2048]⟩
abbrev S2048x2048 : Shape := ⟨2, ![2048, 2048]⟩
abbrev S1x2048x2048 : Shape := ⟨3, ![1, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S1x2048x2048, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8x2048x2048, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x1x2048, .f32⟩
  | .hbm, ⟨39, _⟩ => ⟨S8x1x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S_, .i32⟩
  | .hbm, ⟨44, _⟩ => ⟨S_, .i32⟩
  | .hbm, ⟨45, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_while0c_c_3 : Ref sig .tc := ⟨.hbm, 13, rfl⟩
abbrev main_while0c_v7 : Ref sig .tc := ⟨.hbm, 14, rfl⟩
abbrev main_while0b_c_3 : Ref sig .tc := ⟨.hbm, 15, rfl⟩
abbrev main_while0b_v7 : Ref sig .tc := ⟨.hbm, 16, rfl⟩
abbrev main_while0b_cst_4 : Ref sig .tc := ⟨.hbm, 17, rfl⟩
abbrev main_while0b_v8 : Ref sig .tc := ⟨.hbm, 18, rfl⟩
abbrev main_while0b_v9 : Ref sig .tc := ⟨.hbm, 19, rfl⟩
abbrev main_while0b_v10 : Ref sig .tc := ⟨.hbm, 20, rfl⟩
abbrev main_while0b_v11 : Ref sig .tc := ⟨.hbm, 21, rfl⟩
abbrev main_while0b_v12 : Ref sig .tc := ⟨.hbm, 22, rfl⟩
abbrev main_while0b_cst_5 : Ref sig .tc := ⟨.hbm, 23, rfl⟩
abbrev main_while0b_v13 : Ref sig .tc := ⟨.hbm, 24, rfl⟩
abbrev main_while0b_v14 : Ref sig .tc := ⟨.hbm, 25, rfl⟩
abbrev main_while0b_v15 : Ref sig .tc := ⟨.hbm, 26, rfl⟩
abbrev main_while0b_v16 : Ref sig .tc := ⟨.hbm, 27, rfl⟩
abbrev main_while0b_v17 : Ref sig .tc := ⟨.hbm, 28, rfl⟩
abbrev main_while0b_v18 : Ref sig .tc := ⟨.hbm, 29, rfl⟩
abbrev main_while0b_cst_6 : Ref sig .tc := ⟨.hbm, 30, rfl⟩
abbrev main_while0b_v19 : Ref sig .tc := ⟨.hbm, 31, rfl⟩
abbrev main_while0b_v20 : Ref sig .tc := ⟨.hbm, 32, rfl⟩
abbrev main_while0b_v21 : Ref sig .tc := ⟨.hbm, 33, rfl⟩
abbrev main_while0b_v22 : Ref sig .tc := ⟨.hbm, 34, rfl⟩
abbrev main_while0b_v23 : Ref sig .tc := ⟨.hbm, 35, rfl⟩
abbrev main_while0b_cst_7 : Ref sig .tc := ⟨.hbm, 36, rfl⟩
abbrev main_while0b_v24 : Ref sig .tc := ⟨.hbm, 37, rfl⟩
abbrev main_while0b_v25 : Ref sig .tc := ⟨.hbm, 38, rfl⟩
abbrev main_while0b_v26 : Ref sig .tc := ⟨.hbm, 39, rfl⟩
abbrev main_while0b_v27 : Ref sig .tc := ⟨.hbm, 40, rfl⟩
abbrev main_while0b_v28 : Ref sig .tc := ⟨.hbm, 41, rfl⟩
abbrev main_while0b_v29 : Ref sig .tc := ⟨.hbm, 42, rfl⟩
abbrev main_while0b_c_8 : Ref sig .tc := ⟨.hbm, 43, rfl⟩
abbrev main_while0b_v30 : Ref sig .tc := ⟨.hbm, 44, rfl⟩
abbrev main_v6 : Ref sig .tc := ⟨.hbm, 45, rfl⟩

abbrev nD : Nat := 1
abbrev τ : Topo := Topo.v7x

variable {F : FTy → Type} [FloatOps F]

abbrev main_while0_count : Scf.Loop 32 := ⟨0#32, 20#32, 1#32⟩
-- ==== KernelFloored.lean ====
variable {F : FTy → Type} [FloatOps F] [Named F]
def κ : String → Option EReal := fun
  | "scale" => some ((((13421773 / 134217728) * (Real.log 2))⁻¹ : ℝ) : EReal)
  | _ => none
-- ==== Proof.Names.lean ====
/-
  The names the run of the kernel is told in: sample `b` of the noise and of the result, as the kernel's body slices
  and squeezes them, the two slots of its double buffer, and the equations which say that at grid point `i` the body's
  slices are these at `i` itself, its neighbours, and the two parities.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

noncomputable section

namespace Cert.Proof.Sinkhorn

open Cert.KernelIdeal Cert.KernelIdeal.Gen
open Idealize.ShloMosaic Idealize.ShloMosaic.TcCoe Idealize.ShloMosaic.Tactic

/-- The three arrays in HBM and the two scratch buffers, whole. -/
abbrev noiseM : Memref sig .tc .hbm S8x2048x2048 .f32 := Memref.whole main_arg0
abbrev gammaM : Memref sig .tc .hbm S2048x2048 .f32 := Memref.whole main_arg1
abbrev outM : Memref sig .tc .hbm S8x2048x2048 .f32 := Memref.whole main_v0
abbrev bufM : Memref sig .tc .vmem S2x2048x2048 .f32 := Memref.whole cc0_scratch0
abbrev gbufM : Memref sig .tc .vmem S2048x2048 .f32 := Memref.whole cc0_scratch1

abbrev sampOff (b : Fin 8) : Fin 3 → Nat := ![b.val, 0, 0]
theorem sampOff_inb (b : Fin 8) : ∀ a, sampOff b a + S1x2048x2048.size a ≤ S8x2048x2048.size a := by
  have := b.isLt; intro a; fin_cases a
  · show b.val + 1 ≤ 8; omega
  · show 0 + 2048 ≤ 2048; omega
  · show 0 + 2048 ≤ 2048; omega
abbrev slotOff (s : Fin 2) : Fin 3 → Nat := ![s.val, 0, 0]
theorem slotOff_inb (s : Fin 2) : ∀ a, slotOff s a + S1x2048x2048.size a ≤ S2x2048x2048.size a := by
  have := s.isLt; intro a; fin_cases a
  · show s.val + 1 ≤ 2; omega
  · show 0 + 2048 ≤ 2048; omega
  · show 0 + 2048 ≤ 2048; omega

/-- Sample `b` of the noise. -/
def nblk (b : Fin 8) : Memref sig .tc .hbm S2048x2048 .f32 :=
  (noiseM.slice (Rect.unit (s := S8x2048x2048) (sampOff b) S1x2048x2048.size (sampOff_inb b)) (fun _ => rfl)).squeeze S2048x2048 squeezes_S1x2048x2048_S2048x2048
/-- Sample `b` of the result. -/
def oblk (b : Fin 8) : Memref sig .tc .hbm S2048x2048 .f32 :=
  (outM.slice (Rect.unit (s := S8x2048x2048) (sampOff b) S1x2048x2048.size (sampOff_inb b)) (fun _ => rfl)).squeeze S2048x2048 squeezes_S1x2048x2048_S2048x2048
/-- Slot `s` of the double buffer. -/
def rslot (s : Fin 2) : Memref sig .tc .vmem S2048x2048 .f32 :=
  (bufM.slice (Rect.unit (s := S2x2048x2048) (slotOff s) S1x2048x2048.size (slotOff_inb s)) (fun _ => rfl)).squeeze S2048x2048 squeezes_S1x2048x2048_S2048x2048

instance (s : Fin 2) : ClosedOff (slotOff s) := ⟨slotOff s, rfl⟩
instance (b : Fin 8) : ClosedOff (sampOff b) := ⟨sampOff b, rfl⟩

/-! ### The offsets at point `i` -/

section Offsets
variable (i : grid0.Coords)

theorem lt8 : (i 0).val < 8 := (i 0).isLt

theorem off1_eq : k0_off1 i = slotOff (Ring.sl 2 (i 0).val) := by
  rw [k0_off1_eq]; simp [slotOff, Ring.sl, Fin.ofNat]
theorem off8_eq : k0_off8 i = slotOff (Ring.sl 2 (i 0).val) := by
  rw [k0_off8_eq]; simp [slotOff, Ring.sl, Fin.ofNat]
theorem off11_eq : k0_off11 i = slotOff (Ring.sl 2 (i 0).val) := by
  rw [k0_off11_eq]; simp [slotOff, Ring.sl, Fin.ofNat]
theorem other (n : ℕ) : 1 - n % 2 = (n + 1) % 2 := by omega
theorem off5_eq : k0_off5 i = slotOff (Ring.sl 2 ((i 0).val + 1)) := by
  rw [k0_off5_eq, other]; simp [slotOff, Ring.sl, Fin.ofNat]
theorem off6_eq : k0_off6 i = slotOff (Ring.sl 2 ((i 0).val + 1)) := by
  rw [k0_off6_eq, other]; simp [slotOff, Ring.sl, Fin.ofNat]
theorem off2_eq : k0_off2 i = sampOff (Ring.bk 8 (i 0).val) := by
  rw [k0_off2_eq]; unfold sampOff; rw [Ring.bk_val (lt8 i)]
theorem off10_eq : k0_off10 i = sampOff (Ring.bk 8 (i 0).val) := by
  rw [k0_off10_eq]; unfold sampOff; rw [Ring.bk_val (lt8 i)]
theorem off7_eq (h : (i 0).val + 1 < 8) : k0_off7 i = sampOff (Ring.bk 8 ((i 0).val + 1)) := by
  rw [k0_off7_eq]; unfold sampOff; rw [Ring.bk_val h]
theorem off4_val : ∀ i : grid0.Coords, 1 ≤ (i 0).val → k0_off4 i = ![(i 0).val - 1, 0, 0] := by decide +kernel
theorem off4_eq (h : 1 ≤ (i 0).val) : k0_off4 i = sampOff (Ring.bk 8 ((i 0).val - 1)) := by
  rw [off4_val i h]; unfold sampOff; rw [Ring.bk_val (by have := lt8 i; omega)]

end Offsets

/-! ### The body's slices by these names -/

section Canon
variable (i : grid0.Coords)

private theorem rslot_congr {off : Fin 3 → Nat} {s : Fin 2} (e : off = slotOff s) (hh hs) :
    (bufM.slice (Rect.unit (s := S2x2048x2048) off S1x2048x2048.size hh) hs).squeeze S2048x2048 squeezes_S1x2048x2048_S2048x2048 = rslot s :=
  congrArg (fun M : Memref sig .tc .vmem S1x2048x2048 .f32 => M.squeeze S2048x2048 squeezes_S1x2048x2048_S2048x2048) (Memref.slice_unit_congr _ e _ _ _ _)
private theorem nblk_congr {off : Fin 3 → Nat} {b : Fin 8} (e : off = sampOff b) (hh hs) :
    (noiseM.slice (Rect.unit (s := S8x2048x2048) off S1x2048x2048.size hh) hs).squeeze S2048x2048 squeezes_S1x2048x2048_S2048x2048 = nblk b :=
  congrArg (fun M : Memref sig .tc .hbm S1x2048x2048 .f32 => M.squeeze S2048x2048 squeezes_S1x2048x2048_S2048x2048) (Memref.slice_unit_congr _ e _ _ _ _)
private theorem oblk_congr {off : Fin 3 → Nat} {b : Fin 8} (e : off = sampOff b) (hh hs) :
    (outM.slice (Rect.unit (s := S8x2048x2048) off S1x2048x2048.size hh) hs).squeeze S2048x2048 squeezes_S1x2048x2048_S2048x2048 = oblk b :=
  congrArg (fun M : Memref sig .tc .hbm S1x2048x2048 .f32 => M.squeeze S2048x2048 squeezes_S1x2048x2048_S2048x2048) (Memref.slice_unit_congr _ e _ _ _ _)

/-- The slot of this point's sample, however the body computes its parity. -/
@[sl_canon] theorem slot1 (hh hs) : (bufM.slice (Rect.unit (s := S2x2048x2048) (k0_off1 i) S1x2048x2048.size hh) hs).squeeze S2048x2048 squeezes_S1x2048x2048_S2048x2048 = rslot (Ring.sl 2 (i 0).val) := rslot_congr (off1_eq i) _ _
@[sl_canon] theorem slot8 (hh hs) : (bufM.slice (Rect.unit (s := S2x2048x2048) (k0_off8 i) S1x2048x2048.size hh) hs).squeeze S2048x2048 squeezes_S1x2048x2048_S2048x2048 = rslot (Ring.sl 2 (i 0).val) := rslot_congr (off8_eq i) _ _
@[sl_canon] theorem slot11 (hh hs) : (bufM.slice (Rect.unit (s := S2x2048x2048) (k0_off11 i) S1x2048x2048.size hh) hs).squeeze S2048x2048 squeezes_S1x2048x2048_S2048x2048 = rslot (Ring.sl 2 (i 0).val) := rslot_congr (off11_eq i) _ _
/-- The other slot. -/
@[sl_canon] theorem slot5 (hh hs) : (bufM.slice (Rect.unit (s := S2x2048x2048) (k0_off5 i) S1x2048x2048.size hh) hs).squeeze S2048x2048 squeezes_S1x2048x2048_S2048x2048 = rslot (Ring.sl 2 ((i 0).val + 1)) := rslot_congr (off5_eq i) _ _
@[sl_canon] theorem slot6 (hh hs) : (bufM.slice (Rect.unit (s := S2x2048x2048) (k0_off6 i) S1x2048x2048.size hh) hs).squeeze S2048x2048 squeezes_S1x2048x2048_S2048x2048 = rslot (Ring.sl 2 ((i 0).val + 1)) := rslot_congr (off6_eq i) _ _
/-- The noise's sample waited for and, one point ahead, the one sent for. -/
@[sl_canon] theorem samp2 (hh hs) : (noiseM.slice (Rect.unit (s := S8x2048x2048) (k0_off2 i) S1x2048x2048.size hh) hs).squeeze S2048x2048 squeezes_S1x2048x2048_S2048x2048 = nblk (Ring.bk 8 (i 0).val) := nblk_congr (off2_eq i) _ _
@[sl_canon] theorem samp7 (h : (i 0).val + 1 < 8) (hh hs) : (noiseM.slice (Rect.unit (s := S8x2048x2048) (k0_off7 i) S1x2048x2048.size hh) hs).squeeze S2048x2048 squeezes_S1x2048x2048_S2048x2048 = nblk (Ring.bk 8 ((i 0).val + 1)) := nblk_congr (off7_eq i h) _ _
/-- The result's sample sent and waited for. -/
@[sl_canon] theorem osamp2 (hh hs) : (outM.slice (Rect.unit (s := S8x2048x2048) (k0_off2 i) S1x2048x2048.size hh) hs).squeeze S2048x2048 squeezes_S1x2048x2048_S2048x2048 = oblk (Ring.bk 8 (i 0).val) := oblk_congr (off2_eq i) _ _
@[sl_canon] theorem osamp10 (hh hs) : (outM.slice (Rect.unit (s := S8x2048x2048) (k0_off10 i) S1x2048x2048.size hh) hs).squeeze S2048x2048 squeezes_S1x2048x2048_S2048x2048 = oblk (Ring.bk 8 (i 0).val) := oblk_congr (off10_eq i) _ _
@[sl_canon] theorem osamp4 (h : 1 ≤ (i 0).val) (hh hs) : (outM.slice (Rect.unit (s := S8x2048x2048) (k0_off4 i) S1x2048x2048.size hh) hs).squeeze S2048x2048 squeezes_S1x2048x2048_S2048x2048 = oblk (Ring.bk 8 ((i 0).val - 1)) := oblk_congr (off4_eq i h) _ _
/-- The first point's own transfer: sample 0 into slot 0. -/
@[sl_canon] theorem slotL0 (h : (i 0).val = 0) (hh hs) : (bufM.slice (Rect.unit (s := S2x2048x2048) ![0, 0, 0] S1x2048x2048.size hh) hs).squeeze S2048x2048 squeezes_S1x2048x2048_S2048x2048 = rslot (Ring.sl 2 (i 0).val) := rslot_congr (by rw [h]; decide) _ _
@[sl_canon] theorem sampL0 (h : (i 0).val = 0) (hh hs) : (noiseM.slice (Rect.unit (s := S8x2048x2048) ![0, 0, 0] S1x2048x2048.size hh) hs).squeeze S2048x2048 squeezes_S1x2048x2048_S2048x2048 = nblk (Ring.bk 8 (i 0).val) := nblk_congr (by rw [h]; decide) _ _

end Canon

end Cert.Proof.Sinkhorn

end
-- ==== Proof.Trip.lean ====
/-
  What one block computes — the sample's result from its noise and `gamma`, as the values the kernel's body stores — and
  the invariant of the body's loop: before trip `k` the carried row is `k` column scalings on from the first.
-/
module

public import proofs.«01_k».proof.Proof.Names
public import Idealize.ShloMosaic.Lib.VecWindow

@[expose] public section

noncomputable section

namespace Cert.Proof.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters
local notation "𝕄" => MT nD τ sig Unit (Elt F) ℕ (UU nD τ) ℕ

/-! ### One block -/

/-- The literal one of the body's last round. -/
def one : F .f32 := Scalar.ofBits .f32 0x3F800000#32
/-- The exponentials of a sample, its rows brought to sum one, as stored. -/
def blockP (x g : FVec F S2048x2048 .f32) : FVec F S2048x2048 .f32 := k0_pay3 (k0_pay2 x g)
/-- The row of column factors before trip `k` of the loop. -/
def blockB (x g : FVec F S2048x2048 .f32) (k : ℕ) : FVec F S1x2048 .f32 :=
  (fun b => k0_pay5 b (blockP x g) (blockP x g))^[k] (k0_pay4 k0_pay1 (k0_pay2 x g))
/-- The row sums of the last round, -/
def blockW (x g : FVec F S2048x2048 .f32) : FVec F S2048x1 .f32 := k0_pay7 (blockB x g 18) (blockP x g)
/-- the block with its rows scaled by them, as stored, -/
def blockT (x g : FVec F S2048x2048 .f32) : FVec F S2048x2048 .f32 := k0_pay9 (blockW x g) one (blockP x g)
/-- and the sample's result. -/
def blockOut (x g : FVec F S2048x2048 .f32) : FVec F S2048x2048 .f32 :=
  k0_pay10 k0_pay6 (blockW x g) one (blockP x g) (blockT x g)

/-! ### The loop -/

set_option warn.classDefReducibility false in
/-- Before trip `k` the slot is as it was and the carried row is `k` steps on from the first. -/
@[sl_loop] def scaleInv (𝒱 : Variants) (c : Dev nD) (bd : Option 𝒱.V) (E : Set ℕ) (i : grid0.Coords) (arg1 : Memref sig .tc .hbm S8x2048x2048 .f32) (harg1 : arg1.IsWhole) (arg2 : Memref sig .tc .hbm S2048x2048 .f32) (harg2 : arg2.IsWhole) (arg3 : Memref sig .tc .hbm S8x2048x2048 .f32) (harg3 : arg3.IsWhole) (arg4 : Memref sig .tc .vmem S2x2048x2048 .f32) (harg4 : arg4.IsWhole) (arg5 : Memref sig .tc .vmem S2048x2048 .f32) (harg5 : arg5.IsWhole) (arg6 arg7 arg8 : DmaSems sig S_) (arg0 : BitVec 32) (v12 : FVec F S1x2048 .f32) (v13 : BitVec 32) (v33 : FVec F S2048x2048 .f32)
    (mv : Memref sig .tc .vmem S2048x2048 .f32) (hcanon_v114 : (arg4.slice (Rect.unit (s := S2x2048x2048) (k0_off8 i) S1x2048x2048.size (k0_off8_inb i)) (fun _ => rfl)).squeeze S2048x2048 squeezes_S1x2048x2048_S2048x2048 = mv)
    (X : BufTy.Contents (Elt F) mv.view.ty) (init : FVec F S1x2048 .f32) :
    LoopInvTy_k0_t1 (F := F) Unit ℕ (UU nD τ) ℕ 𝒱 c bd E i arg1 harg1 arg2 harg2 arg3 harg3 arg4 harg4 arg5 harg5 arg6 arg7 arg8 arg0 v12 v13 v33 init where
  inv k acc := iprop((mv.view.loc (c : Thread nD τ) ↦[mv.view.set]{fullShare} X)
    ∗ ⌜acc = (fun b => k0_pay5 b (mv.view.read (Elt F) X) (mv.view.read (Elt F) X))^[k] init⌝)
  step k acc := by
    have hk : k.val < 18 := Nat.lt_of_lt_of_le k.isLt k0_t1_abs.2.1
    unfold k0_t1_body
    iintro ⟨H, %h⟩
    sl_exec
    sl_step
    isplitl [H]; · iexact H
    ipureintro
    rw [Function.iterate_succ_apply', ← h, View.readAt_full]

end Cert.Proof.Sinkhorn

end
-- ==== Proof.Body.lean ====
/-
  One run of the kernel's body, at any grid point: the sample it waits for, the block it computes from it, the copy of the
  next sample that it starts and the copy of its result.  Each of the body's guarded parts is told at the points where its
  guard holds, and the copies are told as what is in flight: the slot and the sample a copy gives back when it is waited for.
-/
module

public import proofs.«01_k».proof.Proof.Trip
public import Idealize.ShloMosaic.Lib.Pipeline.KitQuiescent

@[expose] public section

noncomputable section

namespace Cert.Proof.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ
abbrev 𝒱₀ : Variants := Variants.none

section Pieces
variable (c : Dev nD) (XN : Buf (Elt F) (noiseM.view.loc (c : Thread nD τ))) (XG : Buf (Elt F) (gammaM.view.loc (c : Thread nD τ)))

/-- The resources, each held whole: a slot at some contents, a sample of the noise, a sample of the result, gamma's buffer,
gamma itself, a semaphore's counter at zero. -/
abbrev slotP (s : Fin 2) (f : Buf (Elt F) ((rslot s).view.loc (c : Thread nD τ))) : sProp 𝕄 :=
  (rslot s).view.loc (c : Thread nD τ) ↦[(rslot s).view.set]{fullShare} f
abbrev homeP (b : Fin 8) : sProp 𝕄 := (nblk b).view.loc (c : Thread nD τ) ↦[(nblk b).view.set]{fullShare} XN
abbrev outP (b : Fin 8) (f : Buf (Elt F) (outM.view.loc (c : Thread nD τ))) : sProp 𝕄 :=
  (oblk b).view.loc (c : Thread nD τ) ↦[(oblk b).view.set]{fullShare} f
abbrev gbufP (f : Buf (Elt F) (gbufM.view.loc (c : Thread nD τ))) : sProp 𝕄 :=
  gbufM.view.loc (c : Thread nD τ) ↦[gbufM.view.set]{fullShare} f
abbrev gammaP : sProp 𝕄 := gammaM.view.loc (c : Thread nD τ) ↦[gammaM.view.set]{fullShare} XG
abbrev cellP (sm : DmaSems sig S_) : sProp 𝕄 := semVal ((c : Thread nD τ), SemLoc.dma sm.sem) 0
/-- A sample on its way into a slot, -/
abbrev inFlight (s : Fin 2) (b : Fin 8) : sProp 𝕄 :=
  Transfers.Flight countersEmb (c : Thread nD τ) (SemLoc.dma cc0_scratch2.sem) () 524288
    iprop(slotP c s ((rslot s).view.rep ((nblk b).view.read (Elt F) XN)) ∗ homeP c XN b)
/-- and a slot on its way to the result's sample. -/
abbrev outFlight (s : Fin 2) (b : Fin 8) (Y : Buf (Elt F) (outM.view.loc (c : Thread nD τ))) (f : Buf (Elt F) ((rslot s).view.loc (c : Thread nD τ))) : sProp 𝕄 :=
  Transfers.Flight countersEmb (c : Thread nD τ) (SemLoc.dma cc0_scratch4.sem) () 524288
    iprop(outP c b Y ∗ slotP c s f)
end Pieces

section Run
variable (c : Dev nD) (XN : Buf (Elt F) (noiseM.view.loc (c : Thread nD τ))) (XG : Buf (Elt F) (gammaM.view.loc (c : Thread nD τ)))

/-- The body on the kernel's own buffers. -/
abbrev bodyG (i : grid0.Coords) : Prog (TpuEff nD τ sig (Elt F) Λ₀ .tc) PUnit :=
  cc0__sinkhorn_kernel i noiseM (Memref.isWhole_whole _) gammaM (Memref.isWhole_whole _) outM (Memref.isWhole_whole _) bufM (Memref.isWhole_whole _) gbufM (Memref.isWhole_whole _) cc0_scratch2 cc0_scratch3 cc0_scratch4

/-- Which guards hold at which points. -/
theorem cond3_one : ∀ i : grid0.Coords, 1 ≤ (i 0).val → k0_cond3 i = 1#1 := by decide +kernel
theorem cond4_one : ∀ i : grid0.Coords, (i 0).val + 1 < 8 → k0_cond4 i = 1#1 := by decide +kernel
theorem cond5_zero : ∀ i : grid0.Coords, (i 0).val + 1 < 8 → ¬ k0_cond5 i = 1#1 := by decide +kernel
theorem first_zero : ∀ i : grid0.Coords, 1 ≤ (i 0).val → ¬ Scalar.cmpi .ne (Scalar.extui (Scalar.cmpi .eq (BitVec.ofNat 32 (i 0).val) 0#32)) 0#32 = (1#1 : BitVec 1) := by decide +kernel

/-- The loop's trips. -/
theorem trips_eq : Scf.trips k0_t1_loop.lb k0_t1_loop.ub k0_t1_loop.st = 18 := by decide +kernel

/-- A sample brought into a slot: the slot reads the sample, the sample is back. -/
theorem in_landed (s : Fin 2) (b : Fin 8) (f : Buf (Elt F) ((rslot s).view.loc (c : Thread nD τ))) (x : S2048x2048.Idx → Elt F .f32) (hx : x = (nblk b).view.read (Elt F) XN) :
    iprop(slotP c s ((rslot s).view.writes (Elt F) f [⟨Rect.whole S2048x2048, x⟩]) ∗ homeP c XN b)
    ⊢ iprop(slotP c s ((rslot s).view.rep ((nblk b).view.read (Elt F) XN)) ∗ homeP c XN b) :=
  BI.sep_mono (pointsTo_rep_of_read _ _ _ _ _ ((View.read_writes_whole _ _ _).trans hx)) (BI.Entails.refl _)

/-- A result sent out of a slot: the array's block is `Y`'s. -/
theorem out_block (b : Fin 8) (Y Y' : Buf (Elt F) (outM.view.loc (c : Thread nD τ))) (x : S2048x2048.Idx → Elt F .f32) (hx : x = (oblk b).view.read (Elt F) Y) :
    outP c b ((oblk b).view.writes (Elt F) Y' [⟨Rect.whole S2048x2048, x⟩]) ⊢ outP c b Y := by
  subst hx
  show _ ⊢ ((oblk b).view.loc (c : Thread nD τ) ↦[(oblk b).view.set]{fullShare} Y : sProp 𝕄)
  rw [pointsTo_rep (c : Thread nD τ) (oblk b) Y]
  exact pointsTo_rep_of_read _ _ _ _ _ (View.read_writes_whole _ _ _)
theorem out_landed (b : Fin 8) (Y Y' : Buf (Elt F) (outM.view.loc (c : Thread nD τ))) (x : S2048x2048.Idx → Elt F .f32) (hx : x = (oblk b).view.read (Elt F) Y) (R : sProp 𝕄) :
    iprop(outP c b ((oblk b).view.writes (Elt F) Y' [⟨Rect.whole S2048x2048, x⟩]) ∗ R) ⊢ iprop(outP c b Y ∗ R) :=
  BI.sep_mono (out_block c b Y Y' x hx) (BI.Entails.refl _)

/-- The body's own storing box: the whole slot. -/
abbrev full : Rect S2048x2048 := Rect.unit k0_off3 S2048x2048.size k0_off3_inb

section Chain
variable (m : Memref sig .tc .vmem S2048x2048 .f32) (L : List (View.Piece (Elt F) S2048x2048 .f32)) (r : FVec F S2048x2048 .f32)

/-- What the slot has been written since it held `L`, newest first: the block brought to row sum one; -/
def wrote1 : List (View.Piece (Elt F) S2048x2048 .f32) := ⟨full, k0_pay3 r⟩ :: L
/-- the row sums of the last round, over what the slot reads; -/
def sums : FVec F S2048x1 .f32 :=
  k0_pay7 ((fun b => k0_pay5 b (m.view.read (Elt F) (m.view.writes (Elt F) m.view.junk (wrote1 L r))) (m.view.read (Elt F) (m.view.writes (Elt F) m.view.junk (wrote1 L r))))^[Scf.trips k0_t1_loop.lb k0_t1_loop.ub k0_t1_loop.st] (k0_pay4 k0_pay1 r))
    (m.view.readCov (wrote1 L r) full.toLoadRect)
/-- the block scaled by them; -/
def wrote2 : List (View.Piece (Elt F) S2048x2048 .f32) := ⟨full, k0_pay9 (sums m L r) one (m.view.readCov (wrote1 L r) full.toLoadRect)⟩ :: wrote1 L r
/-- the result. -/
def wrote3 : List (View.Piece (Elt F) S2048x2048 .f32) :=
  ⟨full, k0_pay10 k0_pay6 (sums m L r) one (m.view.readCov (wrote1 L r) full.toLoadRect) (m.view.readCov (wrote2 m L r) full.toLoadRect)⟩ :: wrote2 m L r

/-- After all of it the slot reads the sample's result. -/
theorem wrote3_read (x g : FVec F S2048x2048 .f32) : m.view.read (Elt F) (m.view.writes (Elt F) m.view.junk (wrote3 m L (k0_pay2 x g))) = blockOut x g := by
  have e1 : m.view.readCov (wrote1 L (k0_pay2 x g)) full.toLoadRect = blockP x g := View.readCov_full _ _ _ _ _
  have es : sums m L (k0_pay2 x g) = blockW x g := by
    unfold sums
    rw [e1, wrote1, View.read_writes_full, trips_eq]; rfl
  have e2 : m.view.readCov (wrote2 m L (k0_pay2 x g)) full.toLoadRect = blockT x g := by
    unfold wrote2
    rw [es, e1]; exact View.readCov_full _ _ _ _ _
  unfold wrote3
  rw [es, e1, e2]
  exact View.read_writes_full _ _ _ _ _

end Chain

theorem body_mid (i : grid0.Coords) (h1 : 1 ≤ (i 0).val) (h7 : (i 0).val + 1 < 8) (Y Y' : Buf (Elt F) (outM.view.loc (c : Thread nD τ))) (f W)
    (hY : (oblk (Ring.bk 8 (i 0).val)).view.read (Elt F) Y = blockOut ((nblk (Ring.bk 8 (i 0).val)).view.read (Elt F) XN) (gammaM.view.read (Elt F) XG)) :
    iprop(inFlight c XN (Ring.sl 2 (i 0).val) (Ring.bk 8 (i 0).val)
      ∗ outFlight c (Ring.sl 2 ((i 0).val + 1)) (Ring.bk 8 ((i 0).val - 1)) Y f
      ∗ gbufP c (gbufM.view.rep (gammaM.view.read (Elt F) XG))
      ∗ homeP c XN (Ring.bk 8 ((i 0).val + 1)) ∗ outP c (Ring.bk 8 (i 0).val) Y'
      ∗ owes (c : Thread nD τ) 0 W)
    ⊢ wp frame (wpE (defs₀ (F := F)) 𝒱₀ (c : Thread nD τ) none) Set.univ (bodyG (F := F) i) (fun _ => iprop(
      inFlight c XN (Ring.sl 2 ((i 0).val + 1)) (Ring.bk 8 ((i 0).val + 1))
      ∗ (∃ f, outFlight c (Ring.sl 2 (i 0).val) (Ring.bk 8 (i 0).val) Y f)
      ∗ gbufP c (gbufM.view.rep (gammaM.view.read (Elt F) XG))
      ∗ homeP c XN (Ring.bk 8 (i 0).val) ∗ outP c (Ring.bk 8 ((i 0).val - 1)) Y
      ∗ ∃ W, owes (c : Thread nD τ) 0 W)) := by
  have c3 := cond3_one i h1
  have c4 := cond4_one i h7
  have c5 := cond5_zero i h7
  have c1 := first_zero i h1
  have hcanon8 := slot8 i (k0_off8_inb i) (fun _ => rfl)
  iintro ⟨HI, HO, HG, HN, HY, HW⟩
  dsimp only [bodyG]
  rw [cc0__sinkhorn_kernel_eq_skeleton]
  unfold cc0__sinkhorn_kernel_skel
  rw [k0_part1_eq_skeleton, k0_part2_eq_skeleton, k0_part3_eq_skeleton]
  sl_exec
  sl_step
  have er : body_mid.sl.r c XN XG i = k0_pay2 ((nblk (Ring.bk 8 (i 0).val)).view.read (Elt F) XN) (gammaM.view.read (Elt F) XG) := by
    unfold body_mid.sl.r body_mid.sl.v17
    exact congrArg₂ k0_pay2 (View.readAt_rep_full _ _ _) (View.readAt_rep_full _ _ _)
  have e : body_mid.sl.dma7 c XN XG i = blockOut ((nblk (Ring.bk 8 (i 0).val)).view.read (Elt F) XN) (gammaM.view.read (Elt F) XG) := by
    rw [show body_mid.sl.dma7 c XN XG i = (rslot (Ring.sl 2 (i 0).val)).view.read (Elt F) ((rslot (Ring.sl 2 (i 0).val)).view.writes (Elt F) (rslot (Ring.sl 2 (i 0).val)).view.junk (wrote3 (rslot (Ring.sl 2 (i 0).val)) [] (body_mid.sl.r c XN XG i))) from rfl, er]
    exact wrote3_read _ _ _ _
  isplitl [HI]
  · iapply (Transfers.Flight_mono countersEmb (c : Thread nD τ) (in_landed c XN _ _ f _ rfl)); iexact HI
  isplitl [HO]
  · iexists _
    iapply (Transfers.Flight_mono countersEmb (c : Thread nD τ) (out_landed c _ Y Y' _ (e.trans hY.symm) _)); iexact HO
  isplitl [HG]; · iexact HG
  isplitl [HI_src]; · iexact HI_src
  isplitl [HO_dst]; · iexact HO_dst
  iexists _; iexact HW

theorem cond3_zero : ∀ i : grid0.Coords, (i 0).val = 0 → ¬ k0_cond3 i = 1#1 := by decide +kernel
theorem first_one : ∀ i : grid0.Coords, (i 0).val = 0 → Scalar.cmpi .ne (Scalar.extui (Scalar.cmpi .eq (BitVec.ofNat 32 (i 0).val) 0#32)) 0#32 = (1#1 : BitVec 1) := by decide +kernel
theorem cond4_zero : ∀ i : grid0.Coords, (i 0).val = 7 → ¬ k0_cond4 i = 1#1 := by decide +kernel
theorem cond5_one : ∀ i : grid0.Coords, (i 0).val = 7 → k0_cond5 i = 1#1 := by decide +kernel

theorem body_first (i : grid0.Coords) (h0 : (i 0).val = 0) (Y Y' : Buf (Elt F) (outM.view.loc (c : Thread nD τ))) (f f' fg W)
    (hY : (oblk (Ring.bk 8 (i 0).val)).view.read (Elt F) Y = blockOut ((nblk (Ring.bk 8 (i 0).val)).view.read (Elt F) XN) (gammaM.view.read (Elt F) XG)) :
    iprop(cellP c cc0_scratch2 ∗ cellP c cc0_scratch3 ∗ cellP c cc0_scratch4
      ∗ slotP c (Ring.sl 2 (i 0).val) f ∗ slotP c (Ring.sl 2 ((i 0).val + 1)) f'
      ∗ gbufP c fg ∗ gammaP c XG
      ∗ homeP c XN (Ring.bk 8 (i 0).val) ∗ homeP c XN (Ring.bk 8 ((i 0).val + 1)) ∗ outP c (Ring.bk 8 (i 0).val) Y'
      ∗ owes (c : Thread nD τ) 0 W)
    ⊢ wp frame (wpE (defs₀ (F := F)) 𝒱₀ (c : Thread nD τ) none) Set.univ (bodyG (F := F) i) (fun _ => iprop(
      inFlight c XN (Ring.sl 2 ((i 0).val + 1)) (Ring.bk 8 ((i 0).val + 1))
      ∗ cellP c cc0_scratch3
      ∗ (∃ f, outFlight c (Ring.sl 2 (i 0).val) (Ring.bk 8 (i 0).val) Y f)
      ∗ gbufP c (gbufM.view.rep (gammaM.view.read (Elt F) XG)) ∗ gammaP c XG
      ∗ homeP c XN (Ring.bk 8 (i 0).val)
      ∗ ∃ W, owes (c : Thread nD τ) 0 W)) := by
  have c3 := cond3_zero i h0
  have c4 := cond4_one i (by omega)
  have c5 := cond5_zero i (by omega)
  have c1 := first_one i h0
  have h7 : (i 0).val + 1 < 8 := by omega
  have hcanon8 := slot8 i (k0_off8_inb i) (fun _ => rfl)
  have hcanonS := slotL0 i h0 inb_S2x2048x2048_S1x2048x2048_0_0_0 (fun _ => rfl)
  have hcanonN := sampL0 i h0 inb_S8x2048x2048_S1x2048x2048_0_0_0 (fun _ => rfl)
  iintro ⟨HI, HC, HO, HS, HS', HG, HA, HN, HN', HY, HW⟩
  dsimp only [bodyG]
  rw [cc0__sinkhorn_kernel_eq_skeleton]
  unfold cc0__sinkhorn_kernel_skel
  rw [k0_part1_eq_skeleton, k0_part2_eq_skeleton, k0_part3_eq_skeleton]
  sl_exec
  sl_step
  have er : body_first.sl.r c XN XG i = k0_pay2 ((nblk (Ring.bk 8 (i 0).val)).view.read (Elt F) XN) (gammaM.view.read (Elt F) XG) := by
    unfold body_first.sl.r body_first.sl.v17 body_first.sl.v19
    exact congrArg₂ k0_pay2 ((View.readAt_full _ _ _).trans (View.read_writes_whole _ _ _)) ((View.readAt_full _ _ _).trans (View.read_writes_whole _ _ _))
  have e : body_first.sl.dma7 c XN XG i = blockOut ((nblk (Ring.bk 8 (i 0).val)).view.read (Elt F) XN) (gammaM.view.read (Elt F) XG) := by
    rw [show body_first.sl.dma7 c XN XG i = (rslot (Ring.sl 2 (i 0).val)).view.read (Elt F) ((rslot (Ring.sl 2 (i 0).val)).view.writes (Elt F) (rslot (Ring.sl 2 (i 0).val)).view.junk (wrote3 (rslot (Ring.sl 2 (i 0).val)) [⟨Rect.whole S2048x2048, body_first.sl.dma0_1 c XN i⟩] (body_first.sl.r c XN XG i))) from rfl, er]
    exact wrote3_read _ _ _ _
  isplitl [HI]
  · iapply (Transfers.Flight_mono countersEmb (c : Thread nD τ) (in_landed c XN _ _ f' _ rfl)); iexact HI
  isplitl [HC]; · iexact HC
  isplitl [HO]
  · iexists _
    iapply (Transfers.Flight_mono countersEmb (c : Thread nD τ) (out_landed c _ Y Y' _ (e.trans hY.symm) _)); iexact HO
  isplitl [HG]
  · iapply (pointsTo_rep_of_read (c : Thread nD τ) gbufM _ fullShare _ (View.read_writes_whole _ _ _)); iexact HG
  isplitl [HA]; · iexact HA
  isplitl [HN]; · iexact HN
  iexists _; iexact HW

theorem body_last (i : grid0.Coords) (h0 : (i 0).val = 7) (Y Y' : Buf (Elt F) (outM.view.loc (c : Thread nD τ))) (f W)
    (hY : (oblk (Ring.bk 8 (i 0).val)).view.read (Elt F) Y = blockOut ((nblk (Ring.bk 8 (i 0).val)).view.read (Elt F) XN) (gammaM.view.read (Elt F) XG)) :
    iprop(inFlight c XN (Ring.sl 2 (i 0).val) (Ring.bk 8 (i 0).val)
      ∗ outFlight c (Ring.sl 2 ((i 0).val + 1)) (Ring.bk 8 ((i 0).val - 1)) Y f
      ∗ gbufP c (gbufM.view.rep (gammaM.view.read (Elt F) XG))
      ∗ outP c (Ring.bk 8 (i 0).val) Y'
      ∗ owes (c : Thread nD τ) 0 W)
    ⊢ wp frame (wpE (defs₀ (F := F)) 𝒱₀ (c : Thread nD τ) none) Set.univ (bodyG (F := F) i) (fun _ => iprop(
      cellP c cc0_scratch2 ∗ cellP c cc0_scratch4
      ∗ (∃ f, slotP c (Ring.sl 2 (i 0).val) f) ∗ (∃ f, slotP c (Ring.sl 2 ((i 0).val + 1)) f)
      ∗ gbufP c (gbufM.view.rep (gammaM.view.read (Elt F) XG))
      ∗ homeP c XN (Ring.bk 8 (i 0).val) ∗ outP c (Ring.bk 8 ((i 0).val - 1)) Y ∗ outP c (Ring.bk 8 (i 0).val) Y
      ∗ ∃ W, owes (c : Thread nD τ) 0 W)) := by
  have h1 : 1 ≤ (i 0).val := by omega
  have c3 := cond3_one i h1
  have c4 := cond4_zero i h0
  have c5 := cond5_one i h0
  have c1 := first_zero i h1
  have hcanon8 := slot8 i (k0_off8_inb i) (fun _ => rfl)
  iintro ⟨HI, HO, HG, HY, HW⟩
  dsimp only [bodyG]
  rw [cc0__sinkhorn_kernel_eq_skeleton]
  unfold cc0__sinkhorn_kernel_skel
  rw [k0_part1_eq_skeleton, k0_part2_eq_skeleton, k0_part3_eq_skeleton]
  sl_exec
  sl_step
  have er : body_last.sl.r c XN XG i = k0_pay2 ((nblk (Ring.bk 8 (i 0).val)).view.read (Elt F) XN) (gammaM.view.read (Elt F) XG) := by
    unfold body_last.sl.r
    unfold body_last.sl.v17
    exact congrArg₂ k0_pay2 (View.readAt_rep_full _ _ _) (View.readAt_rep_full _ _ _)
  have e : body_last.sl.dma7 c XN XG i = blockOut ((nblk (Ring.bk 8 (i 0).val)).view.read (Elt F) XN) (gammaM.view.read (Elt F) XG) := by
    rw [show body_last.sl.dma7 c XN XG i = (rslot (Ring.sl 2 (i 0).val)).view.read (Elt F) ((rslot (Ring.sl 2 (i 0).val)).view.writes (Elt F) (rslot (Ring.sl 2 (i 0).val)).view.junk (wrote3 (rslot (Ring.sl 2 (i 0).val)) [] (body_last.sl.r c XN XG i))) from rfl, er]
    exact wrote3_read _ _ _ _
  isplitl [HI]; · iexact HI
  isplitl [HO]; · iexact HO
  isplitl [HI_dst]; · iexists _; iexact HI_dst
  isplitl [HO_src]; · iexists _; iexact HO_src
  isplitl [HG]; · iexact HG
  isplitl [HI_src]; · iexact HI_src
  isplitl [HO_dst]; · iexact HO_dst
  isplitl [HY]; · iapply (out_block c _ Y Y' _ (e.trans hY.symm)); iexact HY
  iexists _; iexact HW

end Run

end Cert.Proof.Sinkhorn
end
-- ==== Proof.Points.lean ====
/-
  What the arrays and scratch buffers hold between the grid's points, and that the kernel's body carries each of these
  states to the next. Before point `k` (1 to 7) sample `k` is on its way into its slot, the result of sample `k - 1` on
  its way out of the other, the results of the samples before it are in the array, and everything else is as it was.
-/
module

public import proofs.«01_k».proof.Proof.Body

@[expose] public section

noncomputable section

namespace Cert.Proof.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- Eight pieces, one of them apart. -/
theorem apart {M : Type} [URA M] (Φ : Fin 8 → sProp M) (a : Fin 8) : bigSep Finset.univ Φ = iprop(Φ a ∗ bigSep (Finset.univ.erase a) Φ) :=
  bigSep_erase (Finset.mem_univ a)

/-- Seven of eight pieces, and the one left out exchanged for another. -/
theorem exchange {M : Type} [URA M] (Φ Ψ : Fin 8 → sProp M) (a b : Fin 8) (hab : a ≠ b) (hc : ∀ i, i ≠ a → i ≠ b → Φ i = Ψ i) :
    bigSep (Finset.univ.erase a) Φ = iprop(Φ b ∗ bigSep ((Finset.univ.erase a).erase b) Φ)
      ∧ bigSep (Finset.univ.erase b) Ψ = iprop(Ψ a ∗ bigSep ((Finset.univ.erase a).erase b) Φ) := by
  refine ⟨bigSep_erase (by simp [hab.symm]), ?_⟩
  rw [bigSep_erase (s := Finset.univ.erase b) (i := a) (by simp [hab]), Finset.erase_right_comm]
  congr 1
  refine bigSep_congr fun i hi => ?_
  simp only [Finset.mem_erase, Finset.mem_univ, and_true] at hi
  exact (hc i hi.2 hi.1).symm

section States
variable (c : Dev nD) (XN : Buf (Elt F) (noiseM.view.loc (c : Thread nD τ))) (XG : Buf (Elt F) (gammaM.view.loc (c : Thread nD τ)))
variable (Y0 Y : Buf (Elt F) (outM.view.loc (c : Thread nD τ)))

/-- Nothing under way: the arrays whole, the result's array at `O`, the scratch buffers at anything. -/
def idle (O : Buf (Elt F) (outM.view.loc (c : Thread nD τ))) : sProp 𝕄 :=
  iprop(bigSep Finset.univ (homeP c XN) ∗ gammaP c XG ∗ (∃ f, gbufP c f) ∗ (∃ f, slotP c 0 f) ∗ (∃ f, slotP c 1 f)
    ∗ cellP c cc0_scratch2 ∗ cellP c cc0_scratch3 ∗ cellP c cc0_scratch4 ∗ bigSep Finset.univ (fun b => outP c b O))

/-- The result's array before point `k`: its first `k` samples done. -/
def doneTo (k : ℕ) (b : Fin 8) : Buf (Elt F) (outM.view.loc (c : Thread nD τ)) := if b.val < k then Y else Y0

/-- Before point `k`, between the first and the last. -/
def busy (k : ℕ) : sProp 𝕄 :=
  iprop(inFlight c XN (Ring.sl 2 k) (Ring.bk 8 k) ∗ bigSep (Finset.univ.erase (Ring.bk 8 k)) (homeP c XN)
    ∗ gammaP c XG ∗ gbufP c (gbufM.view.rep (gammaM.view.read (Elt F) XG)) ∗ cellP c cc0_scratch3
    ∗ (∃ f, outFlight c (Ring.sl 2 (k + 1)) (Ring.bk 8 (k - 1)) Y f)
    ∗ bigSep (Finset.univ.erase (Ring.bk 8 (k - 1))) (fun b => outP c b (doneTo c Y0 Y k b)))

/-- Before point `k`. -/
def state (k : ℕ) : sProp 𝕄 := if k = 0 then idle c XN XG Y0 else if k = 8 then idle c XN XG Y else busy c XN XG Y0 Y k

/-- `Y` is, sample by sample, what one block computes. -/
def IsResult : Prop := ∀ b : Fin 8, (oblk b).view.read (Elt F) Y = blockOut ((nblk b).view.read (Elt F) XN) (gammaM.view.read (Elt F) XG)

variable (i : grid0.Coords) (W : Waits sig Unit)

/-- The body's run from one assertion to another, whatever it owes. -/
abbrev Carries (P Q : sProp 𝕄) : Prop :=
  ∀ W : Waits sig Unit, iprop(P ∗ owes (c : Thread nD τ) 0 W) ⊢ wp frame (wpE (defs₀ (F := F)) 𝒱₀ (c : Thread nD τ) none) Set.univ (bodyG (F := F) i)
    (fun _ => iprop(Q ∗ ∃ W, owes (c : Thread nD τ) 0 W))

/-- The first point: sample 0 is fetched and worked on, sample 1 sent for, the first result on its way. -/
theorem carries_first (hY : IsResult c XN XG Y) (h0 : (i 0).val = 0) : Carries c i (idle c XN XG Y0) (busy c XN XG Y0 Y 1) := fun W => by
  have key := fun f f' fg => body_first c XN XG i h0 Y Y0 f f' fg W (hY _)
  rw [h0] at key
  have hn := exchange (homeP c XN) (homeP c XN) (Ring.bk 8 0) (Ring.bk 8 1) (by decide) (fun _ _ _ => rfl)
  have ho : bigSep (Finset.univ.erase (Ring.bk 8 0)) (fun b => outP c b (doneTo c Y0 Y 1 b)) = bigSep (Finset.univ.erase (Ring.bk 8 0)) (fun b => outP c b Y0) :=
    bigSep_congr fun b hb => by
      have hb' : b.val ≠ 0 := fun h => (Finset.mem_erase.1 hb).1 (Fin.ext h)
      unfold doneTo; rw [if_neg (by omega)]
  unfold idle busy
  rw [apart (homeP c XN) (Ring.bk 8 0), hn.1, hn.2, apart (fun b => outP c b Y0) (Ring.bk 8 0)]
  show _ ⊢ wp frame _ _ _ fun _ => iprop((_ ∗ _ ∗ _ ∗ _ ∗ _ ∗ _ ∗ bigSep (Finset.univ.erase (Ring.bk 8 0)) (fun b => outP c b (doneTo c Y0 Y 1 b))) ∗ _)
  rw [ho]
  iintro ⟨⟨⟨HN0, HN1, HN⟩, HA, ⟨%fg, HG⟩, ⟨%f, HS0⟩, ⟨%f', HS1⟩, HC2, HC3, HC4, HO0, HO⟩, HW⟩
  iapply (wp_wand_r frame _ Set.univ)
  isplitl [HN0 HN1 HA HG HS0 HS1 HC2 HC3 HC4 HO0 HW]
  · iapply (key f f' fg)
    isplitl [HC2]; · iexact HC2
    isplitl [HC3]; · iexact HC3
    isplitl [HC4]; · iexact HC4
    isplitl [HS0]; · iexact HS0
    isplitl [HS1]; · iexact HS1
    isplitl [HG]; · iexact HG
    isplitl [HA]; · iexact HA
    isplitl [HN0]; · iexact HN0
    isplitl [HN1]; · iexact HN1
    isplitl [HO0]; · iexact HO0
    iexact HW
  · iintro %_ ⟨HI, HC3, HF, HG, HA, HN0, HW⟩
    isplitr [HW]
    · isplitl [HI]; · iexact HI
      isplitl [HN0 HN]
      · isplitl [HN0]; · iexact HN0
        iexact HN
      isplitl [HA]; · iexact HA
      isplitl [HG]; · iexact HG
      isplitl [HC3]; · iexact HC3
      isplitl [HF]; · iexact HF
      iexact HO
    iexact HW

/-- A point between the first and the last. -/
theorem carries_mid (hY : IsResult c XN XG Y) (k : ℕ) (hk : (i 0).val = k) (h1 : 1 ≤ k) (h7 : k + 1 < 8) :
    Carries c i (busy c XN XG Y0 Y k) (busy c XN XG Y0 Y (k + 1)) := fun W => by
  subst hk
  have key := fun f => body_mid c XN XG i h1 h7 Y (doneTo c Y0 Y (i 0).val (Ring.bk 8 (i 0).val)) f W (hY _)
  have v0 : (Ring.bk 8 (i 0).val : Fin 8).val = (i 0).val := Ring.bk_val (by omega)
  have v1 : (Ring.bk 8 ((i 0).val + 1) : Fin 8).val = (i 0).val + 1 := Ring.bk_val (by omega)
  have vp : (Ring.bk 8 ((i 0).val - 1) : Fin 8).val = (i 0).val - 1 := Ring.bk_val (by omega)
  have hn := exchange (homeP c XN) (homeP c XN) (Ring.bk 8 (i 0).val) (Ring.bk 8 ((i 0).val + 1)) (fun h => by rw [Fin.ext_iff] at h; omega) (fun _ _ _ => rfl)
  have ho := exchange (fun b => outP c b (doneTo c Y0 Y (i 0).val b)) (fun b => outP c b (doneTo c Y0 Y ((i 0).val + 1) b))
    (Ring.bk 8 ((i 0).val - 1)) (Ring.bk 8 (i 0).val) (fun h => by rw [Fin.ext_iff] at h; omega) (fun b _ h => by
      have h' : b.val ≠ (i 0).val := fun e => h (Fin.ext (e.trans v0.symm))
      have : (b.val < (i 0).val + 1) = (b.val < (i 0).val) := propext ⟨fun _ => by omega, fun _ => by omega⟩
      simp only [doneTo, this])
  have hp : doneTo c Y0 Y ((i 0).val + 1) (Ring.bk 8 ((i 0).val - 1)) = Y := if_pos (by omega)
  rw [hp] at ho
  have e : bigSep (Finset.univ.erase (Ring.bk 8 ((i 0).val + 1 - 1))) (fun b => outP c b (doneTo c Y0 Y ((i 0).val + 1) b)) = _ := ho.2
  unfold busy
  rw [hn.1, hn.2, ho.1, e]
  iintro ⟨⟨HI, ⟨HN1, HN⟩, HA, HG, HC3, ⟨%f, HF⟩, ⟨HO0, HO⟩⟩, HW⟩
  iapply (wp_wand_r frame _ Set.univ)
  isplitl [HI HN1 HG HF HO0 HW]
  · iapply (key f)
    isplitl [HI]; · iexact HI
    isplitl [HF]; · iexact HF
    isplitl [HG]; · iexact HG
    isplitl [HN1]; · iexact HN1
    isplitl [HO0]; · iexact HO0
    iexact HW
  · iintro %_ ⟨HI, HF, HG, HN0, HOp, HW⟩
    isplitr [HW]
    · isplitl [HI]; · iexact HI
      isplitl [HN0 HN]
      · isplitl [HN0]; · iexact HN0
        iexact HN
      isplitl [HA]; · iexact HA
      isplitl [HG]; · iexact HG
      isplitl [HC3]; · iexact HC3
      isplitl [HF]
      · irw [show Ring.sl 2 ((i 0).val + 1 + 1) = Ring.sl 2 (i 0).val from Ring.sl_add 2 _]
        iexact HF
      isplitl [HOp]; · iexact HOp
      iexact HO
    iexact HW

/-- The last point: both results still on their way are waited for. -/
theorem carries_last (hY : IsResult c XN XG Y) (h0 : (i 0).val = 7) : Carries c i (busy c XN XG Y0 Y 7) (idle c XN XG Y) := fun W => by
  have key := fun f => body_last c XN XG i h0 Y Y0 f W (hY _)
  rw [h0] at key
  have ho := exchange (fun b => outP c b (doneTo c Y0 Y 7 b)) (fun b => outP c b Y) (Ring.bk 8 6) (Ring.bk 8 7) (by decide) (fun b h h' => by
    have h7 : b.val ≠ 7 := fun e => h' (Fin.ext e)
    have := b.isLt
    simp only [doneTo, if_pos (show b.val < 7 by omega)])
  have hp : doneTo c Y0 Y 7 (Ring.bk 8 7) = Y0 := if_neg (by decide)
  rw [hp] at ho
  unfold busy idle
  rw [apart (homeP c XN) (Ring.bk 8 7), apart (fun b => outP c b Y) (Ring.bk 8 7), ho.2,
    show bigSep (Finset.univ.erase (Ring.bk 8 (7 - 1))) (fun b => outP c b (doneTo c Y0 Y 7 b)) = _ from ho.1]
  iintro ⟨⟨HI, HN, HA, HG, HC3, ⟨%f, HF⟩, ⟨HO0, HO⟩⟩, HW⟩
  iapply (wp_wand_r frame _ Set.univ)
  isplitl [HI HG HF HO0 HW]
  · iapply (key f)
    isplitl [HI]; · iexact HI
    isplitl [HF]; · iexact HF
    isplitl [HG]; · iexact HG
    isplitl [HO0]; · iexact HO0
    iexact HW
  · iintro %_ ⟨HC2, HC4, HS1, HS0, HG, HN0, HOp, HOl, HW⟩
    isplitr [HW]
    · isplitl [HN0 HN]
      · isplitl [HN0]; · iexact HN0
        iexact HN
      isplitl [HA]; · iexact HA
      isplitl [HG]; · iexists _; iexact HG
      isplitl [HS0]; · iexact HS0
      isplitl [HS1]; · iexact HS1
      isplitl [HC2]; · iexact HC2
      isplitl [HC3]; · iexact HC3
      isplitl [HC4]; · iexact HC4
      isplitl [HOl]; · iexact HOl
      isplitl [HOp]; · iexact HOp
      iexact HO
    iexact HW

/-- Each point carries the state before it to the next point's. -/
theorem carries (hY : IsResult c XN XG Y) (k : ℕ) (hk : (i 0).val = k) : Carries c i (state c XN XG Y0 Y k) (state c XN XG Y0 Y (k + 1)) := by
  have h8 := lt8 i
  by_cases h0 : k = 0
  · subst h0
    exact carries_first c XN XG Y0 Y i hY hk
  by_cases h7 : k = 7
  · subst h7
    exact carries_last c XN XG Y0 Y i hY hk
  · have e : state c XN XG Y0 Y k = busy c XN XG Y0 Y k := by unfold state; rw [if_neg h0, if_neg (by omega)]
    have e' : state c XN XG Y0 Y (k + 1) = busy c XN XG Y0 Y (k + 1) := by unfold state; rw [if_neg (by omega), if_neg (by omega)]
    rw [e, e']
    exact carries_mid c XN XG Y0 Y i hY k hk (by omega) (by omega)

end States

end Cert.Proof.Sinkhorn

end
-- ==== Proof.Region.lean ====
/-
  The whole run of the kernel: what the result's array holds at the end (`result`, sample by sample what one block
  computes), and that every run of `main` ends there, the arguments unchanged and every semaphore at zero.
-/
module

public import proofs.«01_k».proof.Proof.Points
public import Idealize.ShloMosaic.Lib.Pointwise.Index

@[expose] public section

noncomputable section

namespace Cert.Proof.Sinkhorn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UU nD τ) ℕ
abbrev EP : Emb (UR sig nD τ) (MT nD τ sig Unit (Elt F) ℕ (UU nD τ) ℕ) := embL

/-! ### Samples and slots as sets of elements -/

abbrev sampSet (b : Fin 8) : Finset S8x2048x2048.Idx := (Rect.unit (s := S8x2048x2048) (sampOff b) S1x2048x2048.size (sampOff_inb b)).set
abbrev slotSet (s : Fin 2) : Finset S2x2048x2048.Idx := (Rect.unit (s := S2x2048x2048) (slotOff s) S1x2048x2048.size (slotOff_inb s)).set

theorem nblk_set (b : Fin 8) : (nblk b).view.set = sampSet b := (View.set_reshape _ _).trans (View.set_slice_whole _ _)
theorem oblk_set (b : Fin 8) : (oblk b).view.set = sampSet b := (View.set_reshape _ _).trans (View.set_slice_whole _ _)
theorem rslot_set (s : Fin 2) : (rslot s).view.set = slotSet s := (View.set_reshape _ _).trans (View.set_slice_whole _ _)

/-- A sample is the elements of one leading index; so is a slot. -/
theorem mem_sampSet (b : Fin 8) (y : S8x2048x2048.Idx) : y ∈ sampSet b ↔ (y 0).val = b.val := by
  rw [Rect.mem_set_unit]
  have h1 : (y 1).val < 2048 := (y 1).isLt
  have h2 : (y 2).val < 2048 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 2048; omega
    · show 0 ≤ (y 2).val ∧ (y 2).val < 0 + 2048; omega
theorem mem_slotSet (s : Fin 2) (y : S2x2048x2048.Idx) : y ∈ slotSet s ↔ (y 0).val = s.val := by
  rw [Rect.mem_set_unit]
  have h1 : (y 1).val < 2048 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 2048; omega
theorem samp_disjoint (b b' : Fin 8) (hne : b ≠ b') : Disjoint (sampSet b) (sampSet b') := by
  rw [Finset.disjoint_left]; intro y hy hy'; rw [mem_sampSet] at hy hy'; exact hne (Fin.ext (hy.symm.trans hy'))
theorem samp_cover : (Finset.univ : Finset (Fin 8)).biUnion sampSet = Finset.univ := by
  ext y; simp only [Finset.mem_biUnion, Finset.mem_univ, true_and, iff_true]; exact ⟨(y 0).cast (by decide), by rw [mem_sampSet]; rfl⟩
theorem slot_disjoint (s s' : Fin 2) (hne : s ≠ s') : Disjoint (slotSet s) (slotSet s') := by
  rw [Finset.disjoint_left]; intro y hy hy'; rw [mem_slotSet] at hy hy'; exact hne (Fin.ext (hy.symm.trans hy'))
theorem slot_cover : (Finset.univ : Finset (Fin 2)).biUnion slotSet = Finset.univ := by
  ext y; simp only [Finset.mem_biUnion, Finset.mem_univ, true_and, iff_true]; exact ⟨(y 0).cast (by decide), by rw [mem_slotSet]; rfl⟩

theorem bigSep_two {M : Type} [URA M] (Φ : Fin 2 → sProp M) : bigSep Finset.univ Φ = iprop(Φ 0 ∗ Φ 1) :=
  bigSep_univ_eq_bigSepL [(0 : Fin 2), (1 : Fin 2)] (by decide) (by decide) Φ
theorem bigSep_three {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

/-- Equal assertions entail one another. -/
theorem of_eq {M : Type} [URA M] {P Q : sProp M} (e : P = Q) : P ⊢ Q := e ▸ BI.Entails.refl _

section Whole
variable (c : Dev nD)

/-- The noise whole is its eight samples; -/
theorem noise_eq (XN : Buf (Elt F) (noiseM.view.loc (c : Thread nD τ))) :
    (((c : Thread nD τ).loc main_arg0) ↦{fullShare} XN : sProp 𝕄) = bigSep Finset.univ (homeP c XN) := by
  rw [Ring.pointsTo_blocks (ℓ := (c : Thread nD τ).loc main_arg0) sampSet samp_disjoint samp_cover]
  exact bigSep_congr fun b _ => by rw [← nblk_set]; rfl
/-- the result likewise. -/
theorem out_eq (O : Buf (Elt F) (outM.view.loc (c : Thread nD τ))) :
    (((c : Thread nD τ).loc main_v0) ↦{fullShare} O : sProp 𝕄) = bigSep Finset.univ (fun b => outP c b O) := by
  rw [Ring.pointsTo_blocks (ℓ := (c : Thread nD τ).loc main_v0) sampSet samp_disjoint samp_cover]
  exact bigSep_congr fun b _ => by rw [← oblk_set]; rfl
theorem gamma_eq (XG : Buf (Elt F) (gammaM.view.loc (c : Thread nD τ))) :
    (((c : Thread nD τ).loc main_arg1) ↦{fullShare} XG : sProp 𝕄) = gammaP c XG := by
  unfold gammaP; rw [View.set_whole]
theorem gbuf_eq (f : Buf (Elt F) (gbufM.view.loc (c : Thread nD τ))) :
    (((c : Thread nD τ).loc cc0_scratch1) ↦{fullShare} f : sProp 𝕄) = gbufP c f := by
  unfold gbufP; rw [View.set_whole]
theorem slot_eq (s : Fin 2) (f) : slotP c s f = (((c : Thread nD τ).loc cc0_scratch0) ↦[slotSet s]{fullShare} f : sProp 𝕄) :=
  congrArg (fun S => (_ ↦[S]{fullShare} f : sProp 𝕄)) (rslot_set s)
/-- The double buffer whole is its two slots, and back. -/
theorem buf_split :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch0) slotSet slot_disjoint slot_cover f).trans (bigSep_two _))) $$ H
  icases H2 with ⟨H0, H1⟩
  isplitl [H0]
  · iexists f; iapply (of_eq (slot_eq c 0 f).symm); iexact H0
  · iexists f; iapply (of_eq (slot_eq c 1 f).symm); iexact H1
theorem buf_join :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slot_disjoint slot_cover f0)
  irw [bigSep_two]
  isplitl [H0]
  · iexists f0; iapply (of_eq (slot_eq c 0 f0)); iexact H0
  · iexists f1; iapply (of_eq (slot_eq c 1 f1)); iexact H1

/-- The kernel's own semaphores. -/
abbrev osem : Fin 3 → SemLoc sig := fun
  | 0 => .dma cc0_scratch2.sem
  | 1 => .dma cc0_scratch3.sem
  | 2 => .dma cc0_scratch4.sem
theorem ownSemFacts : Pipeline.OwnSemFacts (cfg0.spec) osem := by decide
theorem ownSems_eq : (Pipeline.ownSems0 (Ix := Unit) (Name := ℕ) (U := UU nD τ) (Lvl := ℕ) (Val := Elt F) (τ := τ) osem c : sProp 𝕄)
    = iprop(cellP c cc0_scratch2 ∗ cellP c cc0_scratch3 ∗ cellP c cc0_scratch4) := by
  unfold Pipeline.ownSems0; rw [bigSep_three]

end Whole

/-! ### The result -/

/-- Element `(r, j)` of sample `b`, in the noise and in the result. -/
theorem samp_emb (b : Fin 8) (y : S2048x2048.Idx) :
    (Rect.unit (s := S8x2048x2048) (sampOff b) S1x2048x2048.size (sampOff_inb b)).emb
      (Shape.reshapeEquiv (squeezes_S1x2048x2048_S2048x2048).numel_eq y) = ix3 b (y 0) (y 1) := by
  rw [Shape.reshapeEquiv_cons_one]
  funext a; apply Fin.ext; rw [Rect.emb_apply]
  match a with
  | 0 => show b.val + 1 * 0 = b.val; omega
  | 1 => show 0 + 1 * (y 0).val = (y 0).val; omega
  | 2 => show 0 + 1 * (y 1).val = (y 1).val; omega
theorem nblk_read (c : Dev nD) (XN : Buf (Elt F) (noiseM.view.loc (c : Thread nD τ))) (b : Fin 8) (y : S2048x2048.Idx) :
    (nblk b).view.read (Elt F) XN y = XN (ix3 b (y 0) (y 1)) := congrArg XN (samp_emb b y)
theorem oblk_read (c : Dev nD) (Y : Buf (Elt F) (outM.view.loc (c : Thread nD τ))) (b : Fin 8) (y : S2048x2048.Idx) :
    (oblk b).view.read (Elt F) Y y = Y (ix3 b (y 0) (y 1)) := congrArg Y (samp_emb b y)

/-- What the run leaves in the result's array: sample by sample what one block computes. -/
def result (x : FVec F S8x2048x2048 .f32) (g : FVec F S2048x2048 .f32) : FVec F S8x2048x2048 .f32 :=
  fun y => blockOut (fun z => x (ix3 (y 0) (z 0) (z 1))) g (ix2 (y 1) (y 2))

theorem result_isResult (c : Dev nD) (XN : Buf (Elt F) (noiseM.view.loc (c : Thread nD τ))) (XG : Buf (Elt F) (gammaM.view.loc (c : Thread nD τ))) :
    IsResult c XN XG (result XN XG) := fun b => by
  funext y
  rw [oblk_read c _ b y]
  have e : (nblk b).view.read (Elt F) XN = fun z => XN (ix3 b (z 0) (z 1)) := funext (nblk_read c XN b)
  rw [e]
  show blockOut _ XG (ix2 (y 0) (y 1)) = blockOut _ _ y
  rw [ix2_eta]; rfl

/-! ### The run of `main` -/

section Launch
variable (m : (ℓ : Loc nD τ sig) → Buf (Elt F) ℓ) (ρ : Dev nD → PrngReg)

abbrev XN (c : Dev nD) : Buf (Elt F) (noiseM.view.loc (c : Thread nD τ)) := m ((c : Thread nD τ).loc main_arg0)
abbrev XG (c : Dev nD) : Buf (Elt F) (gammaM.view.loc (c : Thread nD τ)) := m ((c : Thread nD τ).loc main_arg1)
abbrev Y0 (c : Dev nD) : Buf (Elt F) (outM.view.loc (c : Thread nD τ)) := m ((c : Thread nD τ).loc main_v0)
abbrev Y (c : Dev nD) : Buf (Elt F) (outM.view.loc (c : Thread nD τ)) := result (XN m c) (XG m c)

/-- The grid's proof data: no array is staged, the state before each point is `state`. -/
def dats (_ : Fin 1) (c : Dev nD) : Dat τ (Elt F) Unit ℕ (UU nD τ) ℕ cfg0 c where
  A w := w.elim0
  after w := w.elim0
  Φ t := state c (XN m c) (XG m c) (Y0 m c) (Y m c) t.val
  q _ := fullShare
  owed _ := 0

theorem defs_tc : (defs₀ (F := F)) .tc cfg0.body = fun a => bodyG (grid0.coords a.1) := rfl
theorem prog_eq (t : Fin cfg0.N) : (defs₀ (F := F)) .tc cfg0.body (cfg0.bodyArgs t (cfg0.slots t)) = bodyG (cfg0.grid.coords t) :=
  (congrFun defs_tc _).trans rfl
theorem coords_val : ∀ t : Fin cfg0.N, (cfg0.grid.coords t 0).val = t.val := by decide +kernel

theorem noWindow (Φ : Fin cfg0.W → sProp 𝕄) : bigSep Finset.univ Φ = iprop(emp) := bigSep_empty

set_option backward.isDefEq.respectTransparency.types false in
theorem body_obligation (c : Dev nD) : BodyObligation (dats (F := F) m 0 c) (defs₀ (F := F)) 𝒱₀ () Set.univ := fun t => by
  rw [noWindow, noWindow]
  dsimp only
  unfold Dat.owesAt Pipeline.owesWithin
  rw [show (dats m 0 c).owed t.castSucc = 0 from rfl, show (dats m 0 c).owed t.succ = 0 from rfl,
    show (dats m 0 c).Φ t.castSucc = state c (XN m c) (XG m c) (Y0 m c) (Y m c) t.val from rfl,
    show (dats m 0 c).Φ t.succ = state c (XN m c) (XG m c) (Y0 m c) (Y m c) (t.val + 1) from rfl]
  iintro ⟨HΦ, ⟨%W, -, HW⟩, -⟩
  sl_rw [prog_eq t]
  iapply (wp_wand_r frame _ Set.univ)
  isplitl [HΦ HW]
  · iapply (carries c (XN m c) (XG m c) (Y0 m c) (Y m c) _ (result_isResult c (XN m c) (XG m c)) t.val (coords_val t) W)
    isplitl [HΦ]; · iexact HΦ
    iexact HW
  · iintro %_ ⟨HΦ, ⟨%W', HW⟩⟩
    isplitl [HΦ]; · iexact HΦ
    isplitl [HW]
    · iexists W'; isplitr; · ipureintro; exact fun _ _ => Or.inl trivial
      iexact HW
    iempintro

def intoΦ (c : Dev nD) : sProp 𝕄 :=
  iprop((bigSep Finset.univ (homeP c (XN m c)) ∗ gammaP c (XG m c) ∗ bigSep Finset.univ (fun b => outP c b (Y0 m c))) ∗ Pipeline.ownSems0 osem c)
def outOfΦ (c : Dev nD) : sProp 𝕄 :=
  iprop((((c : Thread nD τ).loc main_arg0) ↦{fullShare} XN m c) ∗ (((c : Thread nD τ).loc main_arg1) ↦{fullShare} XG m c) ∗ (((c : Thread nD τ).loc main_v0) ↦{fullShare} Y m c))
def u₀ : UU nD τ := (initOf (Pipeline.cells cfgs Cert.KernelIdeal.Gen.cellOf_inj) (Pipeline.launchToks cfgs Cert.KernelIdeal.Gen.cellOf_inj), 1)
/-- What the run leaves on core `c`. -/
def Left (c : Dev nD) (s : MemSt nD τ sig (Elt F)) : Prop :=
  s.mem ((c : Thread nD τ).loc main_v0) = result (m ((c : Thread nD τ).loc main_arg0)) (m ((c : Thread nD τ).loc main_arg1))
    ∧ s.mem ((c : Thread nD τ).loc main_arg0) = m ((c : Thread nD τ).loc main_arg0)
    ∧ s.mem ((c : Thread nD τ).loc main_arg1) = m ((c : Thread nD τ).loc main_arg1)

set_option backward.isDefEq.respectTransparency.types false in
/-- Over any floats, from any memory with zero counters: every run of `main` ends, the result's array at `result` of the
    arguments, the arguments unchanged, every counter at zero. -/
theorem run_main : θ_run defs (onTc (τ := τ) (main (F := F))) ⟨m, fun _ => 0, ρ⟩ (fun r => (∀ c : Dev nD, Left m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq, noise_eq c (XN m c), gamma_eq c (XG m c), out_eq c (Y0 m c)]
      unfold intoΦ
      iintro ⟨⟨H0, H1, H2⟩, HS, -, -, -⟩; imodintro
      isplitl [H0 H1 H2 HS]
      · isplitl [H0 H1 H2]
        · isplitl [H0]; · iexact H0
          isplitl [H1]; · iexact H1
          iexact H2
        iexact HS
      iempintro)
    (hin := fun c => by
      rw [scopedRest0_eq, show (dats m 0 c).Φ 0 = idle c (XN m c) (XG m c) (Y0 m c) from rfl]
      unfold intoΦ idle; rw [ownSems_eq]
      iintro ⟨⟨⟨H0, H1, H2⟩, Hc2, Hc3, Hc4⟩, Hb, ⟨%fg, Hg⟩⟩
      ihave Hs := (buf_split c) $$ Hb
      icases Hs with ⟨Hs0, Hs1⟩
      isplitl [H0]; · iexact H0
      isplitl [H1]; · iexact H1
      isplitl [Hg]; · iexists fg; iapply (of_eq (gbuf_eq c fg)); iexact Hg
      isplitl [Hs0]; · iexact Hs0
      isplitl [Hs1]; · iexact Hs1
      isplitl [Hc2]; · iexact Hc2
      isplitl [Hc3]; · iexact Hc3
      isplitl [Hc4]; · iexact Hc4
      iexact H2)
    (hout := fun c => by
      rw [scopedRest0_eq, show (dats m 0 c).Φ (Fin.last cfg0.N) = idle c (XN m c) (XG m c) (Y m c) from rfl, ownSems_eq]
      unfold outOfΦ idle; rw [noise_eq c (XN m c), gamma_eq c (XG m c), out_eq c (Y m c)]
      iintro ⟨H0, H1, ⟨%fg, Hg⟩, Hs0, Hs1, Hc2, Hc3, Hc4, H2⟩
      isplitl [H0 H1 H2]
      · isplitl [H0]; · iexact H0
        isplitl [H1]; · iexact H1
        iexact H2
      isplitl [Hc2 Hc3 Hc4]
      · isplitl [Hc2]; · iexact Hc2
        isplitl [Hc3]; · iexact Hc3
        iexact Hc4
      isplitl [Hs0 Hs1]
      · iapply (buf_join c)
        isplitl [Hs0]; · iexact Hs0
        iexact Hs1
      iexists fg; iapply (of_eq (gbuf_eq c fg).symm); iexact Hg)
    (QY := Left m)
    (hY := fun c s' => by
      unfold outOfΦ
      iintro ⟨⟨H0, H1, H2⟩, -, HSI⟩
      icombine HSI H0 gives %h0
      icombine HSI H1 gives %h1
      icombine HSI H2 gives %h2
      imodintro
      isplitr; · ipureintro; exact ⟨Buf.eq_of_forall_mem_univ h2, Buf.eq_of_forall_mem_univ h0, Buf.eq_of_forall_mem_univ h1⟩
      iexact HSI)
    (hQ := fun _ hh hz => ⟨fun c => (hh c).2, hz⟩)

end Launch

end Cert.Proof.Sinkhorn

end
-- ==== Proof.Frames.lean ====
/-
  The frames: the kernel as printed, its idealization and the reference each end with their arguments unchanged and every
  semaphore at zero. The printed kernel and its idealization differ in how two constants are written, and over the machine's
  own floats a named constant is its word: read so, the two are one program, and its run is `run_main`.
-/
module

public import proofs.«01_k».proof.Defs
public import proofs.«01_k».proof.Proof.Gen.Kernel
public import proofs.«01_k».proof.Proof.Region
public import proofs.«01_k».proof.Proof.Gen.ReferenceIdeal.Run
public import Idealize.ShloMosaic.Lib.Quiescent

@[expose] public section

noncomputable section

namespace Cert.Proof.Sinkhorn

open Idealize.ShloMosaic Idealize.ShloMosaic.TcCoe
open Idealize.SL.Sem

/-- Over the machine's floats a named constant is the word it names. -/
instance namedBits : Named Bits where
  named _ _ {φ} b := FloatOps.ofBits φ b

set_option maxRecDepth 65536 in
/-- Read so, the idealization's frame is the printed kernel's. -/
theorem frame_kernel_of_named
    (h : ∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) : Cert.quiescent_Kernel := fun m g _ => h m g

theorem frame_kernel : Cert.quiescent_Kernel :=
  frame_kernel_of_named fun m g => (θ_run _ _ _).mono (fun _ h => ⟨fun c => (h.1 c).2, h.2⟩) (run_main (F := Bits) m g)

theorem frame_kernelIdeal : Cert.quiescent_KernelIdeal := fun m g _ =>
  (θ_run _ _ _).mono (fun _ h => ⟨fun c => (h.1 c).2, h.2⟩) (run_main (F := Ideal) m g)

theorem frame_referenceIdeal : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The two named constants are sites of the rule which names a constant. -/
theorem preserves : Cert.preserves_Kernel_KernelIdeal :=
  ⟨IdealRules.named_const.statement Cert.KernelIdeal.κ "scale" .f32 0x4166D4CA#32 _ rfl,
    IdealRules.named_const.statement Cert.KernelIdeal.κ "no_floor" .f32 0x02081CEA#32 _ rfl⟩

end Cert.Proof.Sinkhorn

end
-- ==== Proof.Real.lean ====
/-
  The mathematics of the claim, over the reals.

  The reference scales a sample's matrix `l` in the logarithm: a round subtracts from every row the logarithm of the sum of
  the row's exponentials, then does the same to every column.  The kernel never leaves the exponentials: it holds one
  matrix `p`, the exponentials with rows of sum one, and carries only the factor `b` of each column; the factor of a row is
  one over the row's sum of `p` times `b`, and the next factor of a column is one over the column's sum of `p` times the
  rows' factors.

  The equation (`round_iterate`): after `k + 1` rounds from `l`, the exponential at row `i` and column `j` is a positive
  factor of the row, times `p i j`, times the `k`-th factor of column `j`; what the row's factor is does not matter to the
  next round, whose first half divides by the row's sum.
-/
module

public import Mathlib.Analysis.SpecialFunctions.Log.Basic
public import Mathlib.Analysis.SpecialFunctions.Pow.Real

@[expose] public section

noncomputable section

namespace Cert.Proof.Sinkhorn

open Real

variable {ι κ : Type} [Fintype ι] [Fintype κ] [Nonempty ι] [Nonempty κ]

/-! ### The reference's round -/

/-- Every row has the logarithm of its sum of exponentials subtracted. -/
def rowNorm (l : ι → κ → ℝ) : ι → κ → ℝ := fun i j => l i j - log (∑ q, exp (l i q))
/-- Every column has the logarithm of its sum of exponentials subtracted. -/
def colNorm (l : ι → κ → ℝ) : ι → κ → ℝ := fun i j => l i j - log (∑ q, exp (l q j))
/-- One round: the rows, then the columns. -/
def round (l : ι → κ → ℝ) : ι → κ → ℝ := colNorm (rowNorm l)

theorem sum_exp_pos {α : Type} [Fintype α] [Nonempty α] (f : α → ℝ) : 0 < ∑ q, exp (f q) :=
  Finset.sum_pos (fun _ _ => exp_pos _) Finset.univ_nonempty

omit [Fintype ι] [Nonempty ι] in
theorem exp_rowNorm (l : ι → κ → ℝ) (i : ι) (j : κ) : exp (rowNorm l i j) = exp (l i j) / ∑ q, exp (l i q) := by
  rw [rowNorm, exp_sub, exp_log (sum_exp_pos _)]

omit [Fintype κ] [Nonempty κ] in
theorem exp_colNorm (l : ι → κ → ℝ) (i : ι) (j : κ) : exp (colNorm l i j) = exp (l i j) / ∑ q, exp (l q j) := by
  rw [colNorm, exp_sub, exp_log (sum_exp_pos _)]

/-- The logarithm of a sum of exponentials, each shifted by `m`, with the shift put back: the shift does not matter. -/
theorem log_sum_shift {α : Type} [Fintype α] [Nonempty α] (f : α → ℝ) (m : ℝ) :
    log (∑ q, exp (f q - m)) + m = log (∑ q, exp (f q)) := by
  have h : ∑ q, exp (f q - m) = (∑ q, exp (f q)) * exp (-m) := by
    rw [Finset.sum_mul]
    exact Finset.sum_congr rfl fun q _ => by rw [sub_eq_add_neg, exp_add]
  rw [h, log_mul (sum_exp_pos f).ne' (exp_pos _).ne', log_exp]
  ring

/-! ### The kernel's factors -/

/-- The exponentials with every row brought to sum one. -/
def share (l : ι → κ → ℝ) : ι → κ → ℝ := fun i j => exp (l i j) / ∑ q, exp (l i q)
/-- The factor of a row, from the columns' factors. -/
def rowFactor (p : ι → κ → ℝ) (b : κ → ℝ) (i : ι) : ℝ := 1 / ∑ q, p i q * b q
/-- The first factor of a column. -/
def colFirst (p : ι → κ → ℝ) (j : κ) : ℝ := 1 / ∑ i, p i j
/-- The next factor of a column, from the columns' factors before it. -/
def colNext (p : ι → κ → ℝ) (b : κ → ℝ) (j : κ) : ℝ := 1 / ∑ i, p i j * rowFactor p b i
/-- A factor of a column after `k` trips of the kernel's loop. -/
def colFactor (p : ι → κ → ℝ) (k : ℕ) : κ → ℝ := (colNext p)^[k] (colFirst p)
/-- The sum of a column after `k` trips, whose inverse its factor is. -/
def colSum (p : ι → κ → ℝ) : ℕ → κ → ℝ
  | 0, j => ∑ i, p i j
  | k + 1, j => ∑ i, p i j * rowFactor p (colFactor p k) i
/-- The sample's result. -/
def scaled (p : ι → κ → ℝ) (k : ℕ) (i : ι) (j : κ) : ℝ :=
  p i j * rowFactor p (colFactor p k) i * colNext p (colFactor p k) j

omit [Nonempty ι] [Nonempty κ] in
theorem colFactor_succ (p : ι → κ → ℝ) (k : ℕ) : colFactor p (k + 1) = colNext p (colFactor p k) :=
  Function.iterate_succ_apply' _ _ _

omit [Nonempty ι] [Nonempty κ] in
theorem colFactor_eq (p : ι → κ → ℝ) : ∀ (k : ℕ) (j : κ), colFactor p k j = 1 / colSum p k j
  | 0, _ => rfl
  | k + 1, j => by rw [colFactor_succ]; rfl

omit [Fintype ι] [Nonempty ι] in
theorem share_pos (l : ι → κ → ℝ) (i : ι) (j : κ) : 0 < share l i j := div_pos (exp_pos _) (sum_exp_pos _)

/-- A matrix of positive numbers has positive factors. -/
theorem rowFactor_pos {p : ι → κ → ℝ} (hp : ∀ i j, 0 < p i j) {b : κ → ℝ} (hb : ∀ j, 0 < b j) (i : ι) :
    0 < rowFactor p b i :=
  one_div_pos.mpr (Finset.sum_pos (fun q _ => mul_pos (hp i q) (hb q)) Finset.univ_nonempty)

theorem colFirst_pos {p : ι → κ → ℝ} (hp : ∀ i j, 0 < p i j) (j : κ) : 0 < colFirst p j :=
  one_div_pos.mpr (Finset.sum_pos (fun i _ => hp i j) Finset.univ_nonempty)

theorem colNext_pos {p : ι → κ → ℝ} (hp : ∀ i j, 0 < p i j) {b : κ → ℝ} (hb : ∀ j, 0 < b j) (j : κ) :
    0 < colNext p b j :=
  one_div_pos.mpr (Finset.sum_pos (fun i _ => mul_pos (hp i j) (rowFactor_pos hp hb i)) Finset.univ_nonempty)

theorem colFactor_pos {p : ι → κ → ℝ} (hp : ∀ i j, 0 < p i j) (k : ℕ) : ∀ j, 0 < colFactor p k j := by
  induction k with
  | zero => exact colFirst_pos hp
  | succ k ih => intro j; rw [colFactor, Function.iterate_succ_apply']; exact colNext_pos hp ih j

theorem colSum_pos {p : ι → κ → ℝ} (hp : ∀ i j, 0 < p i j) (k : ℕ) (j : κ) : 0 < colSum p k j := by
  have h := colFactor_pos hp k j
  rwa [colFactor_eq, one_div_pos] at h

/-! ### The equation -/

/-- The first round: the rows' factors are one. -/
theorem exp_round_first (l : ι → κ → ℝ) (i : ι) (j : κ) :
    exp (round l i j) = share l i j * colFirst (share l) j := by
  rw [round, exp_colNorm]
  simp only [exp_rowNorm]
  rw [colFirst, mul_one_div]
  rfl

/-- A later round, from a matrix that is `p` with its rows scaled by any positive `a` and its columns by `b`. -/
theorem exp_round {p l : ι → κ → ℝ} {a : ι → ℝ} {b : κ → ℝ} (ha : ∀ i, 0 < a i)
    (hl : ∀ i j, exp (l i j) = a i * p i j * b j) (i : ι) (j : κ) :
    exp (round l i j) = p i j * rowFactor p b i * colNext p b j := by
  have hrow : ∀ i j, exp (rowNorm l i j) = p i j * b j * rowFactor p b i := by
    intro i j
    rw [exp_rowNorm, rowFactor, mul_one_div]
    simp only [hl, mul_assoc, ← Finset.mul_sum]
    exact mul_div_mul_left _ _ (ha i).ne'
  have hb : b j ≠ 0 := by
    intro h
    have := hl i j
    rw [h, mul_zero] at this
    exact (exp_pos _).ne' this
  rw [round, exp_colNorm, colNext, mul_one_div]
  simp only [hrow]
  have e : ∑ q, p q j * b j * rowFactor p b q = b j * ∑ q, p q j * rowFactor p b q := by
    rw [Finset.mul_sum]
    exact Finset.sum_congr rfl fun q _ => by ring
  rw [e, show p i j * b j * rowFactor p b i = b j * (p i j * rowFactor p b i) by ring]
  exact mul_div_mul_left _ _ hb

/-- After `k + 1` rounds: some positive factors of the rows, and the kernel's `k`-th factors of the columns. -/
theorem round_iterate (l : ι → κ → ℝ) (k : ℕ) :
    ∃ a : ι → ℝ, (∀ i, 0 < a i) ∧ ∀ i j, exp (round^[k + 1] l i j) = a i * share l i j * colFactor (share l) k j := by
  induction k with
  | zero => exact ⟨fun _ => 1, fun _ => one_pos, fun i j => by rw [one_mul]; exact exp_round_first l i j⟩
  | succ k ih =>
    obtain ⟨a, ha, h⟩ := ih
    refine ⟨rowFactor (share l) (colFactor (share l) k), rowFactor_pos (share_pos l) (colFactor_pos (share_pos l) k), ?_⟩
    intro i j
    rw [Function.iterate_succ_apply', exp_round ha h i j, colFactor_succ]
    ring

/-- The kernel's result is the exponential of the reference's rounds: one round before the loop's trips and one after. -/
theorem scaled_eq_round (l : ι → κ → ℝ) (k : ℕ) (i : ι) (j : κ) :
    scaled (share l) k i j = exp (round^[k + 2] l i j) := by
  obtain ⟨a, ha, h⟩ := round_iterate l k
  rw [Function.iterate_succ_apply', exp_round ha h i j]
  rfl

/-! ### The kernel's exponentials, in base two -/

/-- Two to the power of `(y - m)`, where `y` is `l` over the logarithm of two, and the row's sum of it divided out:
the share of `l`, whatever `m` is. -/
theorem share_of_base_two (l c : ι → κ → ℝ) (m : ι → ℝ) (hc : ∀ i j, c i j * log 2 = l i j) (i : ι) (j : κ) :
    (2 : ℝ) ^ (c i j - m i) * (1 / ∑ q, (2 : ℝ) ^ (c i q - m i)) = share l i j := by
  have e : ∀ q, (2 : ℝ) ^ (c i q - m i) = exp (-(m i * log 2)) * exp (l i q) := by
    intro q
    rw [rpow_def_of_pos two_pos, ← exp_add, ← hc i q]
    congr 1; ring
  simp only [e, ← Finset.mul_sum]
  rw [mul_one_div, mul_div_mul_left _ _ (exp_pos _).ne']
  rfl

end Cert.Proof.Sinkhorn

end
-- ==== Proof.Lift.lean ====
/-
  Extended reals that are reals.  Over finite inputs every number of the kernel and of the reference is a real; these lemmas
  say so of each operation that could leave the reals: a sum, a row's maximum from minus infinity, one over a positive
  number, a maximum with minus infinity.
-/
module

public import proofs.«01_k».proof.KernelIdeal
public import Idealize.ShloMosaic.Lib.Pointwise
public import Idealize.ShloMosaic.Lib.IdealHost

@[expose] public section

noncomputable section

namespace Cert.Proof.Sinkhorn

open Idealize.ShloMosaic

/-- A sum of reals is a real. -/
theorem sum_coe {α : Type} (s : Finset α) (f : α → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, at least one, is a real. -/
theorem fold_max_coe {α : Type} (s : Finset α) (hs : s.Nonempty) (f : α → ℝ) :
    ∃ m : ℝ, s.fold max (⊥ : EReal) (fun i => ((f i : ℝ) : EReal)) = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm, EReal.coe_strictMono.monotone.map_max]⟩

/-- One over a real that is not zero. -/
theorem one_div_coe {y : ℝ} (hy : y ≠ 0) : Ideal.div 1 (y : EReal) = ((1 / y : ℝ) : EReal) := by
  rw [Ideal.div, if_neg (by exact_mod_cast hy), one_mul, ← EReal.coe_inv, one_div]

/-- A real over a real that is not zero. -/
theorem div_coe (x : ℝ) {y : ℝ} (hy : y ≠ 0) : Ideal.div (x : EReal) (y : EReal) = ((x / y : ℝ) : EReal) := by
  rw [Ideal.div, if_neg (by exact_mod_cast hy), ← EReal.coe_inv, ← EReal.coe_mul, div_eq_mul_inv]

/-- The host's tenth, the temperature, as the real the pattern is. -/
def temp : ℝ := 13421773 / 134217728

theorem temp_pos : 0 < temp := by norm_num [temp]

theorem ofBits_temp : Ideal.ofBits .f32 0x3DCCCCCD#32 = (temp : EReal) := by
  simp [Ideal.ofBits, Ideal.ieee, temp, -EReal.coe_mul]; norm_num

/-- The pattern a maximum starts from is minus infinity. -/
theorem ofBits_bot : Ideal.ofBits .f32 0xFF800000#32 = (⊥ : EReal) := by
  simp [Ideal.ofBits, Ideal.ieee]

/-- The pattern a finite number lies below is plus infinity. -/
theorem ofBits_top : Ideal.ofBits .f32 0x7F800000#32 = (⊤ : EReal) := by
  simp [Ideal.ofBits, Ideal.ieee]

/-- The floor under a sum, read as minus infinity: it floors nothing. -/
theorem floor_bot : Named.named (F := Ideal) (φ := .f32) Cert.KernelIdeal.κ "no_floor" 0x02081CEA#32 = (⊥ : EReal) :=
  IdealRules.named_const.ideal_named_scalar _ _ _ _ rfl

/-- The factor on the logits: one over the temperature, in base two. -/
theorem scale_real :
    Named.named (F := Ideal) (φ := .f32) Cert.KernelIdeal.κ "scale" 0x4166D4CA#32 = (((temp * Real.log 2)⁻¹ : ℝ) : EReal) :=
  IdealRules.named_const.ideal_named_scalar _ _ _ _ rfl

/-- The rows taken eight at a time, then the eight, are all the rows. -/
theorem sum_rows (f : Fin 2048 → ℝ) :
    ∑ r : Fin 8, ∑ q : Fin 256, f ⟨q.val * 8 + r.val, by omega⟩ = ∑ i, f i := by
  rw [Finset.sum_comm, ← Fintype.sum_prod_type']
  refine Fintype.sum_equiv (finProdFinEquiv (m := 256) (n := 8)) _ _ fun x => ?_
  congr 1
  ext
  simp [finProdFinEquiv, Nat.mul_comm, Nat.add_comm]

end Cert.Proof.Sinkhorn

end
-- ==== Proof.BlockValue.lean ====
/-
  What one block computes over the reals.  On a sample `X` and a `gamma` of reals, the stored exponentials are the shares of
  the logits `(G + X) / temp`, the carried row is the columns' factors, and the sample's result is `scaled` of the shares
  after eighteen trips (`blockOut_real`).  Each equation reads the body's value at an index and keeps every number a real.
  The floor under the sums is any `fl` that every sum reaches.
-/
module

public import proofs.«01_k».proof.Proof.Trip
public import proofs.«01_k».proof.Proof.Real
public import proofs.«01_k».proof.Proof.Lift

@[expose] public section

noncomputable section

namespace Cert.Proof.Sinkhorn

open Cert.KernelIdeal Cert.KernelIdeal.Gen
open Idealize.ShloMosaic

/-- A matrix of reals, a row of them and a column of them as the kernel's arrays. -/
def mat (f : Fin 2048 → Fin 2048 → ℝ) : FVec Ideal S2048x2048 .f32 := fun z => ((f (z 0) (z 1) : ℝ) : EReal)
def row (f : Fin 2048 → ℝ) : FVec Ideal S1x2048 .f32 := fun z => ((f (z 1) : ℝ) : EReal)
def col (f : Fin 2048 → ℝ) : FVec Ideal S2048x1 .f32 := fun z => ((f (z 0) : ℝ) : EReal)

theorem mat_at (f : Fin 2048 → Fin 2048 → ℝ) (i j : Fin 2048) : mat f (ix2 i j) = ((f i j : ℝ) : EReal) := rfl
theorem row_at (f : Fin 2048 → ℝ) (i : Fin 1) (j : Fin 2048) : row f (ix2 i j) = ((f j : ℝ) : EReal) := rfl
theorem col_at (f : Fin 2048 → ℝ) (i : Fin 2048) (j : Fin 1) : col f (ix2 i j) = ((f i : ℝ) : EReal) := rfl

/-- How the floats read the kernel's two named constants: the scale as the real it is named, the floor as `fl`. -/
structure Reads [Named Ideal] (fl : EReal) : Prop where
  scale : Named.named (F := Ideal) (φ := .f32) κ "scale" 0x4166D4CA#32 = (((temp * Real.log 2)⁻¹ : ℝ) : EReal)
  floor : Named.named (F := Ideal) (φ := .f32) κ "no_floor" 0x02081CEA#32 = fl

/-- Every sum that the rounds divide by reaches the floor: the first sums of the columns, then each trip's sums of the rows
and of the columns. -/
structure Clears (fl : EReal) (p : Fin 2048 → Fin 2048 → ℝ) : Prop where
  first : ∀ j, fl ≤ ((∑ i, p i j : ℝ) : EReal)
  rows : ∀ k, k ≤ 18 → ∀ i, fl ≤ ((∑ q, p i q * colFactor p k q : ℝ) : EReal)
  cols : ∀ k, k ≤ 18 → ∀ j, fl ≤ ((∑ i, p i j * rowFactor p (colFactor p k) i : ℝ) : EReal)

/-- Minus infinity is a floor that every sum reaches. -/
theorem clears_bot (p : Fin 2048 → Fin 2048 → ℝ) : Clears ⊥ p :=
  ⟨fun _ => bot_le, fun _ _ _ => bot_le, fun _ _ _ => bot_le⟩

theorem reads_bot : Reads ⊥ := ⟨scale_real, floor_bot⟩

/-- The logits of a sample. -/
def logits (X G : Fin 2048 → Fin 2048 → ℝ) : Fin 2048 → Fin 2048 → ℝ := fun i j => (G i j + X i j) / temp

/-- The rows' maxima of an array of reals are reals; which ones does not matter. -/
theorem max_real (c : Fin 2048 → Fin 2048 → ℝ) (hφ : FKind.Formats .f32)
    (hacc : (0xFF800000#32 : BitVec 32) = FKind.maximumf.neutral .f32 hφ) :
    ∃ m : Fin 2048 → ℝ, multiReduction (F := Ideal) .maximumf [1] S2048 (mat c) 0xFF800000#32
      reduces_S2048x2048_S2048 hφ hacc = fun z => ((m (z 0) : ℝ) : EReal) := by
  choose m hm using fun i : Fin 2048 => fold_max_coe Finset.univ Finset.univ_nonempty (c i)
  refine ⟨m, funext fun z => ?_⟩
  refine (Ideal.multiReduction_maximumf_single _ _ _ hφ hacc z).trans ?_
  rw [← hm (z 0), ← ofBits_bot]
  rfl

/-- The body's exponentials from the scaled logits `c` and their rows' maxima `m`: two to the difference, each row over
its sum. -/
def fromMax {F : FTy → Type} [FloatOps F] (c : FVec F S2048x2048 .f32) (m : FVec F S2048 .f32) :
    FVec F S2048x2048 .f32 :=
  have e : FVec F S2048x2048 .f32 := exp2 (subf c (broadcastTo S2048x2048 (shapeCast S2048x1 m shapeCasts_S2048_S2048x1)
    broadcasts_S2048x1_S2048x2048))
  have s : FVec F S2048x1 .f32 := shapeCast S2048x1
    (multiReduction .add [1] S2048 e 0x00000000#32 reduces_S2048x2048_S2048 (.inl rfl) rfl) shapeCasts_S2048_S2048x1
  mulf e (broadcastTo S2048x2048 (divf (broadcast S2048x1 (Scalar.ofBits .f32 0x3F800000#32)) s)
    broadcasts_S2048x1_S2048x2048)

/-- The scaled logits. -/
def scaledLogits {F : FTy → Type} [FloatOps F] [Named F] (x g : FVec F S2048x2048 .f32) : FVec F S2048x2048 .f32 :=
  mulf (addf x g) (broadcast S2048x2048 (Named.named κ "scale" 0x4166D4CA#32))

theorem shares_eq {F : FTy → Type} [FloatOps F] [Named F] (x g : FVec F S2048x2048 .f32) :
    k0_pay2 x g = fromMax (scaledLogits x g) (multiReduction .maximumf [1] S2048 (scaledLogits x g) 0xFF800000#32
      reduces_S2048x2048_S2048 (.inl rfl) rfl) := rfl

/-- Two to a real. -/
theorem exp2_real (y : ℝ) : FloatOps.exp2 (F := Ideal) (φ := .f32) (y : EReal) = (((2 : ℝ) ^ y : ℝ) : EReal) := rfl

section Floor
variable [Named Ideal] {fl : EReal} (hn : Reads fl)
include hn

/-- The scaled logits of reals: the logits over the logarithm of two. -/
theorem scaledLogits_real (X G : Fin 2048 → Fin 2048 → ℝ) :
    scaledLogits (F := Ideal) (mat X) (mat G) = mat (fun i j => (X i j + G i j) * (temp * Real.log 2)⁻¹) := by
  funext z
  rw [eq_ix2 z]
  generalize z 0 = i
  generalize z 1 = j
  pointwise [scaledLogits, hn.scale, mat_at, EReal.coe_mul, EReal.coe_add]

/-- The exponentials, their rows brought to sum one. -/
theorem shares_real (X G : Fin 2048 → Fin 2048 → ℝ) :
    k0_pay2 (F := Ideal) (mat X) (mat G) = mat (share (logits X G)) := by
  rw [shares_eq, scaledLogits_real hn]
  obtain ⟨m, hm⟩ := max_real (fun i j => (X i j + G i j) * (temp * Real.log 2)⁻¹) (.inl rfl) rfl
  rw [hm]
  funext z
  rw [eq_ix2 z]
  generalize z 0 = i
  generalize z 1 = j
  have hl : ∀ i j, (X i j + G i j) * (temp * Real.log 2)⁻¹ * Real.log 2 = logits X G i j := by
    intro i j
    have ht := temp_pos.ne'
    have h2 : Real.log 2 ≠ 0 := (Real.log_pos one_lt_two).ne'
    rw [logits]
    field_simp
    ring
  have hs : ∑ q, (2 : ℝ) ^ ((X i q + G i q) * (temp * Real.log 2)⁻¹ - m i) ≠ 0 :=
    (Finset.sum_pos (fun q _ => Real.rpow_pos_of_pos two_pos _) Finset.univ_nonempty).ne'
  pointwise [fromMax, mat_at, ← EReal.coe_sub, exp2_real, sum_coe]
  rw [one_div_coe hs, ← EReal.coe_mul]
  exact congrArg _ (share_of_base_two (logits X G) _ m hl i j)

/-- The first factors of the columns. -/
theorem first_real {p : Fin 2048 → Fin 2048 → ℝ} (hp : ∀ i j, 0 < p i j)
    (hf : ∀ j, fl ≤ ((∑ i, p i j : ℝ) : EReal)) :
    k0_pay4 (F := Ideal) k0_pay1 (mat p) = row (colFirst p) := by
  funext z
  rw [eq_ix2 z]
  generalize z 0 = i
  generalize z 1 = j
  pointwise [k0_pay4, k0_pay1, mat_at, row_at, sum_coe, hn.floor, max_eq_left (hf _)]
  have h : ∑ i, p i j ≠ 0 := (Finset.sum_pos (fun i _ => hp i j) Finset.univ_nonempty).ne'
  exact one_div_coe h

/-- The next factors of the columns: one trip of the loop. -/
theorem next_real {p : Fin 2048 → Fin 2048 → ℝ} (hp : ∀ i j, 0 < p i j) {b : Fin 2048 → ℝ} (hb : ∀ j, 0 < b j)
    (hfr : ∀ i, fl ≤ ((∑ q, p i q * b q : ℝ) : EReal))
    (hfc : ∀ j, fl ≤ ((∑ i, p i j * rowFactor p b i : ℝ) : EReal)) :
    k0_pay5 (F := Ideal) (row b) (mat p) (mat p) = row (colNext p b) := by
  have hr : ∀ i, ∑ q, p i q * b q ≠ 0 := fun i => (Finset.sum_pos (fun q _ => mul_pos (hp i q) (hb q)) Finset.univ_nonempty).ne'
  funext z
  rw [eq_ix2 z]
  generalize z 0 = i
  generalize z 1 = j
  have hc : ∑ i, p i j * rowFactor p b i ≠ 0 :=
    (Finset.sum_pos (fun i _ => mul_pos (hp i j) (rowFactor_pos hp hb i)) Finset.univ_nonempty).ne'
  pointwise [k0_pay5, mat_at, row_at, ← EReal.coe_mul, sum_coe, hn.floor, max_eq_left (hfr _), one_div_coe (hr _)]
  rw [sum_rows fun i => p i j * (1 / ∑ q, p i q * b q)]
  exact (congrArg (Ideal.div 1) (max_eq_left (hfc j))).trans (one_div_coe hc)

/-- The rows' sums of the last round. -/
theorem sums_real {p : Fin 2048 → Fin 2048 → ℝ} {b : Fin 2048 → ℝ}
    (hfr : ∀ i, fl ≤ ((∑ q, p i q * b q : ℝ) : EReal)) :
    k0_pay7 (F := Ideal) (row b) (mat p) = col (fun i => ∑ q, p i q * b q) := by
  funext z
  rw [eq_ix2 z]
  generalize z 0 = i
  generalize z 1 = j
  pointwise [k0_pay7, mat_at, row_at, col_at, ← EReal.coe_mul, sum_coe, hn.floor, max_eq_left (hfr _)]

omit hn in
/-- The block with its rows scaled, -/
theorem rows_real {p : Fin 2048 → Fin 2048 → ℝ} {w : Fin 2048 → ℝ} (hw : ∀ i, w i ≠ 0) :
    k0_pay9 (F := Ideal) (col w) one (mat p) = mat (fun i j => p i j * (1 / w i)) := by
  funext z
  rw [eq_ix2 z]
  generalize z 0 = i
  generalize z 1 = j
  pointwise [k0_pay9, k0_pay8, one, mat_at, col_at, ← EReal.coe_mul, one_div_coe (hw _)]

/-- and with its columns scaled too. -/
theorem last_real {p t : Fin 2048 → Fin 2048 → ℝ} {w : Fin 2048 → ℝ} (hw : ∀ i, w i ≠ 0)
    (hc : ∀ j, ∑ i, p i j * (1 / w i) ≠ 0) (hfc : ∀ j, fl ≤ ((∑ i, p i j * (1 / w i) : ℝ) : EReal)) :
    k0_pay10 (F := Ideal) k0_pay6 (col w) one (mat p) (mat t)
      = mat (fun i j => t i j * (1 / ∑ i, p i j * (1 / w i))) := by
  funext z
  rw [eq_ix2 z]
  generalize z 0 = i
  generalize z 1 = j
  pointwise [k0_pay10, k0_pay8, k0_pay6, one, mat_at, col_at, ← EReal.coe_mul, one_div_coe (hw _), sum_coe, hn.floor]
  rw [sum_rows fun i => p i j * (1 / w i), max_eq_left (hfc j), one_div_coe (hc j), EReal.coe_mul]

/-- The stored exponentials. -/
theorem blockP_real (X G : Fin 2048 → Fin 2048 → ℝ) : blockP (F := Ideal) (mat X) (mat G) = mat (share (logits X G)) := by
  rw [blockP, shares_real hn]
  funext z
  rw [eq_ix2 z]
  pointwise [k0_pay3]

/-- The carried row before trip `k`. -/
theorem blockB_real {X G : Fin 2048 → Fin 2048 → ℝ} (hf : Clears fl (share (logits X G))) (k : ℕ) (hk : k ≤ 18) :
    blockB (F := Ideal) (mat X) (mat G) k = row (colFactor (share (logits X G)) k) := by
  rw [blockB, shares_real hn, first_real hn (share_pos _) hf.first, blockP_real hn]
  induction k with
  | zero => rfl
  | succ k ih =>
    have h : k ≤ 18 := by omega
    rw [Function.iterate_succ_apply', ih h, next_real hn (share_pos _) (colFactor_pos (share_pos _) k) (hf.rows k h)
      (hf.cols k h), colFactor_succ]

/-- A sample's result. -/
theorem blockOut_real {X G : Fin 2048 → Fin 2048 → ℝ} (hf : Clears fl (share (logits X G))) :
    blockOut (F := Ideal) (mat X) (mat G) = mat (scaled (share (logits X G)) 18) := by
  have hp := share_pos (logits X G)
  have hb := colFactor_pos hp 18
  have hw : ∀ i, ∑ q, share (logits X G) i q * colFactor (share (logits X G)) 18 q ≠ 0 := fun i =>
    (Finset.sum_pos (fun q _ => mul_pos (hp i q) (hb q)) Finset.univ_nonempty).ne'
  rw [blockOut, blockT, blockW, blockP_real hn, blockB_real hn hf 18 le_rfl, sums_real hn (hf.rows 18 le_rfl), rows_real hw,
    last_real hn hw]
  · rfl
  · exact fun j => (Finset.sum_pos (fun i _ => mul_pos (hp i j) (rowFactor_pos hp hb i)) Finset.univ_nonempty).ne'
  · exact hf.cols 18 le_rfl

end Floor

end Cert.Proof.Sinkhorn

end
-- ==== Proof.RefValue.lean ====
/-
  What the reference computes over the reals.  Before its loop the carried array holds the logits of every sample; one trip
  is `round` on every sample; the result is the exponential of the array after twenty (`result_real`).
-/
module

public import proofs.«01_k».proof.Proof.Gen.ReferenceIdeal.Run
public import proofs.«01_k».proof.Proof.Real
public import proofs.«01_k».proof.Proof.Lift

@[expose] public section

noncomputable section

namespace Cert.Proof.Sinkhorn

open Cert.ReferenceIdeal Cert.ReferenceIdeal.Gen Cert.ReferenceIdeal.Value
open Idealize.ShloMosaic Idealize.ShloMosaic.TcCoe Idealize.ShloMosaic.StableHlo
open Idealize.SL Idealize.SL.Sem

/-- Eight matrices of reals, and eight rows of them, as the reference's arrays. -/
def cube (f : Fin 8 → Fin 2048 → Fin 2048 → ℝ) : FVec Ideal S8x2048x2048 .f32 :=
  fun z => ((f (z 0) (z 1) (z 2) : ℝ) : EReal)
def plane (f : Fin 8 → Fin 2048 → ℝ) : FVec Ideal S8x2048 .f32 := fun z => ((f (z 0) (z 1) : ℝ) : EReal)

theorem cube_at (f : Fin 8 → Fin 2048 → Fin 2048 → ℝ) (b : Fin 8) (i j : Fin 2048) :
    cube f (ix3 b i j) = ((f b i j : ℝ) : EReal) := rfl
theorem plane_at (f : Fin 8 → Fin 2048 → ℝ) (b : Fin 8) (i : Fin 2048) : plane f (ix2 b i) = ((f b i : ℝ) : EReal) := rfl

/-! ### The maxima -/

/-- The rows' maxima of reals are reals; which ones does not matter. -/
theorem rowMax_real (l : Fin 8 → Fin 2048 → Fin 2048 → ℝ) :
    ∃ m, Host.reduce (FloatOps.maximumf (F := Ideal) (φ := .f32)) (cube l) (constant S_ .f32 0xFF800000#32)
      reducesTo_S8x2048x2048_S8x2048_d2 h_S_ = plane m := by
  choose m hm using fun (b : Fin 8) (i : Fin 2048) => fold_max_coe Finset.univ Finset.univ_nonempty (l b i)
  refine ⟨m, funext fun z => ?_⟩
  refine (Host.reduce_eq_fold_single _ _ _ _ (by decide) _ z).trans ?_
  rw [plane, ← hm (z 0) (z 1), ← ofBits_bot]
  rfl

/-- The columns' maxima likewise. -/
theorem colMax_real (l : Fin 8 → Fin 2048 → Fin 2048 → ℝ) :
    ∃ m, Host.reduce (FloatOps.maximumf (F := Ideal) (φ := .f32)) (cube l) (constant S_ .f32 0xFF800000#32)
      reducesTo_S8x2048x2048_S8x2048_d1 h_S_ = plane m := by
  choose m hm using fun (b : Fin 8) (j : Fin 2048) => fold_max_coe Finset.univ Finset.univ_nonempty (fun i => l b i j)
  refine ⟨m, funext fun z => ?_⟩
  refine (Host.reduce_eq_fold_single _ _ _ _ (by decide) _ z).trans ?_
  rw [plane, ← hm (z 0) (z 1), ← ofBits_bot]
  rfl

/-! ### The two halves of a trip -/

/-- The trip's first half, from the array and its rows' maxima. -/
def lessRows {F : FTy → Type} [FloatOps F] (l : FVec F S8x2048x2048 .f32) (m : FVec F S8x2048 .f32) :
    FVec F S8x2048x2048 .f32 :=
  have w : FVec F S8x2048x1 .f32 := broadcastInDim S8x2048x1 ![0, 1] bcast_S8x2048_S8x2048x1_0_1 m
  have e : FVec F S8x2048x2048 .f32 :=
    Host.exp (subf l (broadcastInDim S8x2048x2048 ![0, 1, 2] bcast_S8x2048x1_S8x2048x2048_0_1_2 w))
  have s : FVec F S8x2048 .f32 :=
    Host.reduceAdd e (constant S_ .f32 0x00000000#32) reducesTo_S8x2048x2048_S8x2048_d2 h_S_
  subf l (broadcastInDim S8x2048x2048 ![0, 1, 2] bcast_S8x2048x1_S8x2048x2048_0_1_2
    (addf (Host.log (broadcastInDim S8x2048x1 ![0, 1] bcast_S8x2048_S8x2048x1_0_1 s)) w))

/-- The trip's second half, from the array and its columns' maxima. -/
def lessCols {F : FTy → Type} [FloatOps F] (l : FVec F S8x2048x2048 .f32) (m : FVec F S8x2048 .f32) :
    FVec F S8x2048x2048 .f32 :=
  have w : FVec F S8x1x2048 .f32 := broadcastInDim S8x1x2048 ![0, 2] bcast_S8x2048_S8x1x2048_0_2 m
  have e : FVec F S8x2048x2048 .f32 :=
    Host.exp (subf l (broadcastInDim S8x2048x2048 ![0, 1, 2] bcast_S8x1x2048_S8x2048x2048_0_1_2 w))
  have s : FVec F S8x2048 .f32 :=
    Host.reduceAdd e (constant S_ .f32 0x00000000#32) reducesTo_S8x2048x2048_S8x2048_d1 h_S_
  subf l (broadcastInDim S8x2048x2048 ![0, 1, 2] bcast_S8x1x2048_S8x2048x2048_0_1_2
    (addf (Host.log (broadcastInDim S8x1x2048 ![0, 2] bcast_S8x2048_S8x1x2048_0_2 s)) w))

theorem rows_eq {F : FTy → Type} [FloatOps F] (V : Valuation τ sig (Elt F)) :
    res_main_while0b_v18 V = lessRows (V (Proc.devRef .tc main_v5_2))
      (Host.reduce FloatOps.maximumf (V (Proc.devRef .tc main_v5_2)) (constant S_ .f32 0xFF800000#32)
        reducesTo_S8x2048x2048_S8x2048_d2 h_S_) := rfl

theorem cols_eq {F : FTy → Type} [FloatOps F] (V : Valuation τ sig (Elt F)) :
    step_main_v5_2 V = lessCols (res_main_while0b_v18 V)
      (Host.reduce FloatOps.maximumf (res_main_while0b_v18 V) (constant S_ .f32 0xFF800000#32)
        reducesTo_S8x2048x2048_S8x2048_d1 h_S_) := rfl

/-- The exponential of a real, and the logarithm of a positive one. -/
theorem exp_real (y : ℝ) : FloatOps.hostUnary (F := Ideal) (φ := .f32) .exp (y : EReal) = ((Real.exp y : ℝ) : EReal) := rfl
theorem log_real {y : ℝ} (hy : 0 < y) : Ideal.log (y : EReal) = ((Real.log y : ℝ) : EReal) := by
  rw [Ideal.log_coe, if_neg hy.not_ge]

theorem lessRows_real (l : Fin 8 → Fin 2048 → Fin 2048 → ℝ) (m : Fin 8 → Fin 2048 → ℝ) :
    lessRows (F := Ideal) (cube l) (plane m) = cube (fun b => rowNorm (l b)) := by
  funext z
  obtain ⟨b, i, j, rfl⟩ : ∃ (b : Fin 8) (i j : Fin 2048), z = ix3 b i j := ⟨_, _, _, eq_ix3 z⟩
  pointwise [lessRows, cube_at, plane_at, ← EReal.coe_sub, Ideal.exp_coe, sum_coe]
  rw [log_real (sum_exp_pos _), ← EReal.coe_add, log_sum_shift, ← EReal.coe_sub]
  rfl

theorem lessCols_real (l : Fin 8 → Fin 2048 → Fin 2048 → ℝ) (m : Fin 8 → Fin 2048 → ℝ) :
    lessCols (F := Ideal) (cube l) (plane m) = cube (fun b => colNorm (l b)) := by
  funext z
  obtain ⟨b, i, j, rfl⟩ : ∃ (b : Fin 8) (i j : Fin 2048), z = ix3 b i j := ⟨_, _, _, eq_ix3 z⟩
  pointwise [lessCols, cube_at, plane_at, ← EReal.coe_sub, Ideal.exp_coe, sum_coe]
  rw [log_real (sum_exp_pos _), ← EReal.coe_add, log_sum_shift fun i => l b i j, ← EReal.coe_sub]
  rfl

/-- One trip is a round on every sample. -/
theorem trip_real {V : Valuation τ sig (Elt Ideal)} {l : Fin 8 → Fin 2048 → Fin 2048 → ℝ}
    (h : V (Proc.devRef .tc main_v5_2) = cube l) :
    STEP V (Proc.devRef .tc main_v5_2) = cube (fun b => round (l b)) := by
  obtain ⟨m, hm⟩ := rowMax_real l
  obtain ⟨m', hm'⟩ := colMax_real (fun b => rowNorm (l b))
  have hr : res_main_while0b_v18 V = cube (fun b => rowNorm (l b)) := by
    rw [rows_eq, h, hm, lessRows_real]
  rw [STEP_main_v5_2, cols_eq, hr, hm', lessCols_real]
  rfl

/-! ### The entry and the whole -/

variable (m : (ℓ : Loc nD τ sig) → Buf (Elt Ideal) ℓ)

/-- The logits the loop starts from, as the reference's operations make them. -/
def entry {F : FTy → Type} [FloatOps F] (x : FVec F S8x2048x2048 .f32) (g : FVec F S2048x2048 .f32) :
    FVec F S8x2048x2048 .f32 :=
  Host.divf (addf (broadcastInDim S8x2048x2048 ![0, 1, 2] bcast_S1x2048x2048_S8x2048x2048_0_1_2
      (broadcastInDim S1x2048x2048 ![1, 2] bcast_S2048x2048_S1x2048x2048_1_2 g)) x)
    (broadcastInDim S8x2048x2048 ![] bcast_S_S8x2048x2048 (constant S_ .f32 0x3DCCCCCD#32))

theorem entry_eq (c : Dev nD) : entryContents (F := Ideal) preI m c (Proc.devRef .tc main_v5_2)
    = entry (F := Ideal) (m ((c.tc : Thread nD τ).loc main_arg0)) (m ((c.tc : Thread nD τ).loc main_arg1)) := by
  simp only [entryContents, afterL_cons, afterL_nil]
  after_reads_simp
  rfl

theorem entry_real (X : Fin 8 → Fin 2048 → Fin 2048 → ℝ) (G : Fin 2048 → Fin 2048 → ℝ) :
    entry (F := Ideal) (cube X) (fun z : S2048x2048.Idx => ((G (z 0) (z 1) : ℝ) : EReal))
      = cube (fun b i j => (G i j + X b i j) / temp) := by
  funext z
  obtain ⟨b, i, j, rfl⟩ : ∃ (b : Fin 8) (i j : Fin 2048), z = ix3 b i j := ⟨_, _, _, eq_ix3 z⟩
  pointwise [entry, cube_at, ofBits_temp, ← EReal.coe_add, div_coe _ temp_pos.ne']

/-- Before trip `k` the array holds `k` rounds of every sample's logits. -/
theorem rounds_real {c : Dev nD} {l : Fin 8 → Fin 2048 → Fin 2048 → ℝ}
    (h : entryContents (F := Ideal) preI m c (Proc.devRef .tc main_v5_2) = cube l) (k : ℕ) :
    (STEP (F := Ideal))^[k] (entryContents (F := Ideal) preI m c) (Proc.devRef .tc main_v5_2) = cube (fun b => round^[k] (l b)) := by
  induction k with
  | zero => exact h
  | succ k ih =>
    rw [Function.iterate_succ_apply', trip_real ih]
    simp only [Function.iterate_succ_apply']

/-- The reference's result on reals. -/
theorem result_real {c : Dev nD} {X : Fin 8 → Fin 2048 → Fin 2048 → ℝ} {G : Fin 2048 → Fin 2048 → ℝ}
    (hx : m ((c.tc : Thread nD τ).loc main_arg0) = cube X)
    (hg : m ((c.tc : Thread nD τ).loc main_arg1) = fun z : S2048x2048.Idx => ((G (z 0) (z 1) : ℝ) : EReal)) :
    out_main_v6 (F := Ideal) ((STEP (F := Ideal))^[20] (entryContents (F := Ideal) preI m c))
      = cube (fun b i j => Real.exp (round^[20] (fun i j => (G i j + X b i j) / temp) i j)) := by
  have h : entryContents (F := Ideal) preI m c (Proc.devRef .tc main_v5_2) = cube (fun b i j => (G i j + X b i j) / temp) := by
    rw [entry_eq, hx, hg, entry_real]
  rw [out_main_v6, rounds_real m h 20]
  rfl

end Cert.Proof.Sinkhorn

end
-- ==== Proof.Finite.lean ====
/-
  What the precondition says over the reals: where `finite` is all ones, every element of both arguments is a real.
-/
module

public import proofs.«01_k».proof.Defs
public import proofs.«01_k».proof.Proof.Lift
public import proofs.«01_k».proof.Proof.Gen.Pre_finite

@[expose] public section

noncomputable section

namespace Cert.Proof.Sinkhorn

open Cert.Pre_finite
open Idealize.ShloMosaic

/-- An extended real whose absolute value lies below plus infinity is a real. -/
theorem real_of_abs_lt {x : EReal} (h : FloatOps.absf (F := Ideal) (φ := .f32) x < ⊤) : ((x.toReal : ℝ) : EReal) = x := by
  have h' : max x (-x) < ⊤ := h
  refine EReal.coe_toReal (fun e => ?_) (fun e => ?_)
  · rw [e] at h'; exact absurd h' (by simp)
  · rw [e] at h'; exact absurd h' (by simp)

/-- Both elements the predicate reads at an index are reals. -/
theorem real_at {x : FVec Ideal S8x2048x2048 .f32} {g : FVec Ideal S2048x2048 .f32} (h : fn x g = fun _ => 1#1)
    (b : Fin 8) (i j : Fin 2048) :
    (((x (ix3 b i j)).toReal : ℝ) : EReal) = x (ix3 b i j) ∧ (((g (ix2 i j)).toReal : ℝ) : EReal) = g (ix2 i j) := by
  have e := congrFun h (ix3 b i j)
  have ha : ∀ p q : Bool, IntOp.andi (BitVec.ofBool p) (BitVec.ofBool q) = 1#1 ↔ p = true ∧ q = true := by decide
  pointwise [fn, ofBits_top, ha, decide_eq_true_eq] at e
  exact ⟨real_of_abs_lt e.1, real_of_abs_lt e.2⟩

end Cert.Proof.Sinkhorn

end
-- ==== Proof.Algebraic.lean ====
/-
  The value claim: on finite arguments the kernel's array and the reference's are the same array of reals.  The kernel
  leaves `result` of its arguments, a block's value at every sample; over the reals that is `scaled` of the sample's shares
  after eighteen trips.  The reference leaves the exponential of twenty rounds of the sample's logits.  `scaled_eq_round`
  says the two are equal.
-/
module

public import proofs.«01_k».proof.Proof.Region
public import proofs.«01_k».proof.Proof.BlockValue
public import proofs.«01_k».proof.Proof.RefValue
public import proofs.«01_k».proof.Proof.Finite

@[expose] public section

noncomputable section

namespace Cert.Proof.Sinkhorn

open Idealize.ShloMosaic Idealize.ShloMosaic.TcCoe
open Idealize.SL.Sem

/-- The array both programs leave, from arguments of reals. -/
def answer (X : Fin 8 → Fin 2048 → Fin 2048 → ℝ) (G : Fin 2048 → Fin 2048 → ℝ) :
    FVec Ideal Cert.ReferenceIdeal.S8x2048x2048 .f32 :=
  cube fun b i j => Real.exp (round^[20] (logits (X b) G) i j)

/-- What the kernel leaves, whatever floor every sum reaches. -/
theorem result_answer [Named Ideal] {fl : EReal} (hn : Reads fl) {X : Fin 8 → Fin 2048 → Fin 2048 → ℝ}
    {G : Fin 2048 → Fin 2048 → ℝ} (hf : ∀ b, Clears fl (share (logits (X b) G))) :
    result (F := Ideal) (cube X) (mat G) = answer X G := by
  funext y
  obtain ⟨b, i, j, rfl⟩ : ∃ (b : Fin 8) (i j : Fin 2048), y = ix3 b i j := ⟨_, _, _, eq_ix3 y⟩
  have h : result (F := Ideal) (cube X) (mat G) (ix3 b i j) = blockOut (F := Ideal) (mat (X b)) (mat G) (ix2 i j) := rfl
  rw [h, blockOut_real hn (hf b), mat_at, scaled_eq_round, answer, cube_at]

/-- Where `finite` is all ones, the arguments are arrays of reals. -/
theorem reals_of_finite {x : FVec Ideal Cert.KernelIdeal.S8x2048x2048 .f32} {g : FVec Ideal Cert.KernelIdeal.S2048x2048 .f32}
    (h : Cert.Pre_finite.fn x g = fun _ => 1#1) : ∃ X G, x = cube X ∧ g = mat G := by
  refine ⟨fun b i j => EReal.toReal (x (ix3 b i j)), fun i j => EReal.toReal (g (ix2 i j)), ?_, ?_⟩
  · funext z
    obtain ⟨b, i, j, rfl⟩ : ∃ (b : Fin 8) (i j : Fin 2048), z = ix3 b i j := ⟨_, _, _, eq_ix3 z⟩
    exact (real_at h b i j).1.symm
  · funext z
    obtain ⟨i, j, rfl⟩ : ∃ i j : Fin 2048, z = ix2 i j := ⟨_, _, eq_ix2 z⟩
    exact (real_at h 0 i j).2.symm

theorem algebraic : Cert.algebraic_KernelIdeal_ReferenceIdeal_pre_finite := by
  intro m g m' g' hpre hargs
  choose X G hx hg using fun c => reals_of_finite (hpre c)
  refine ⟨fun c => answer (X c) (G c), ?_, ?_⟩
  · refine (θ_run _ _ _).mono (fun r h c => ?_) (run_main (F := Ideal) m g)
    obtain ⟨h0, h1⟩ := h.1 c
    exact ⟨h0.trans (by rw [hx c, hg c]; exact result_answer reads_bot fun b => clears_bot _), h1⟩
  · refine (θ_run _ _ _).mono (fun r h c => ?_) (Cert.ReferenceIdeal.Value.run (F := Ideal) m' g')
    obtain ⟨h0, h1⟩ := h c
    exact ⟨h0.trans (result_real m' ((hargs c).1.trans (hx c)) ((hargs c).2.trans (hg c))), h1⟩

end Cert.Proof.Sinkhorn

end
-- ==== Proof.Unfloored.lean ====
/-
  What the second precondition says over the reals.  `unfloored` runs the rounds on the sums themselves and compares every
  sum with the literal floor; it is printed as nineteen trips written out, which are nineteen turns of one function
  (`unfloored_eq`).  Where it is all ones, both arguments are reals and every sum the kernel divides by reaches the floor
  (`clears_of_unfloored`).
-/
module

public import proofs.«01_k».proof.Proof.BlockValue
public import proofs.«01_k».proof.Proof.RefValue
public import proofs.«01_k».proof.Proof.Finite
public import proofs.«01_k».proof.Proof.Gen.Pre_unfloored

@[expose] public section

noncomputable section

namespace Cert.Proof.Sinkhorn

open Cert.Pre_unfloored Cert.Pre_unfloored.Facts
open Idealize.ShloMosaic

/-! ### The precondition as turns of one function -/

section Turns
variable {F : FTy → Type} [FloatOps F]

/-- The sums of the rows and of the columns of every sample. -/
def rowSums (p : FVec F S8x2048x2048 .f32) : FVec F S8x2048x1 .f32 :=
  broadcastInDim S8x2048x1 ![0, 1] bcast_S8x2048_S8x2048x1_0_1
    (Host.reduceAdd p (constant S_ .f32 0x00000000#32) reducesTo_S8x2048x2048_S8x2048_d2 h_S_)
def colSums (p : FVec F S8x2048x2048 .f32) : FVec F S8x1x2048 .f32 :=
  broadcastInDim S8x1x2048 ![0, 2] bcast_S8x2048_S8x1x2048_0_2
    (Host.reduceAdd p (constant S_ .f32 0x00000000#32) reducesTo_S8x2048x2048_S8x2048_d1 h_S_)

/-- The array over its columns' sums, and over its rows' sums. -/
def overCols (p : FVec F S8x2048x2048 .f32) (w : FVec F S8x1x2048 .f32) : FVec F S8x2048x2048 .f32 :=
  mulf p (broadcastInDim S8x2048x2048 ![0, 1, 2] bcast_S8x1x2048_S8x2048x2048_0_1_2
    (Host.divf (broadcastInDim S8x1x2048 ![] bcast_S_S8x1x2048 (constant S_ .f32 0x3F800000#32)) w))
def overRows (p : FVec F S8x2048x2048 .f32) (w : FVec F S8x2048x1 .f32) : FVec F S8x2048x2048 .f32 :=
  mulf p (broadcastInDim S8x2048x2048 ![0, 1, 2] bcast_S8x2048x1_S8x2048x2048_0_1_2
    (Host.divf (broadcastInDim S8x2048x1 ![] bcast_S_S8x2048x1 (constant S_ .f32 0x3F800000#32)) w))

/-- Where the sums reach the floor, read at every element. -/
def colsReach (w : FVec F S8x1x2048 .f32) : IVec S8x2048x2048 1 :=
  broadcastInDim S8x2048x2048 ![0, 1, 2] bcast_S8x1x2048_S8x2048x2048_0_1_2
    (cmpf .oge w (broadcastInDim S8x1x2048 ![] bcast_S_S8x1x2048 (constant S_ .f32 0x02081CEA#32)))
def rowsReach (w : FVec F S8x2048x1 .f32) : IVec S8x2048x2048 1 :=
  broadcastInDim S8x2048x2048 ![0, 1, 2] bcast_S8x2048x1_S8x2048x2048_0_1_2
    (cmpf .oge w (broadcastInDim S8x2048x1 ![] bcast_S_S8x2048x1 (constant S_ .f32 0x02081CEA#32)))

/-- One turn: the columns' sums become the rows' and then the columns' again, and both are compared with the floor. -/
def turn (p : FVec F S8x2048x2048 .f32) (s : IVec S8x2048x2048 1 × FVec F S8x1x2048 .f32) :
    IVec S8x2048x2048 1 × FVec F S8x1x2048 .f32 :=
  (andi (andi s.1 (rowsReach (rowSums (overCols p s.2))))
      (colsReach (colSums (overRows p (rowSums (overCols p s.2))))),
    colSums (overRows p (rowSums (overCols p s.2))))

/-- The exponentials, their rows brought to sum one. -/
def shares (x : FVec F S8x2048x2048 .f32) (g : FVec F S2048x2048 .f32) : FVec F S8x2048x2048 .f32 :=
  Host.exp (lessRows (entry x g) (Host.reduce FloatOps.maximumf (entry x g) (constant S_ .f32 0xFF800000#32)
    reducesTo_S8x2048x2048_S8x2048_d2 h_S_))

theorem unfloored_eq (x : FVec F S8x2048x2048 .f32) (g : FVec F S2048x2048 .f32) :
    fn x g = ((turn (shares x g))^[19]
      (andi (Cert.Pre_finite.fn x g) (colsReach (colSums (shares x g))), colSums (shares x g))).1 := rfl

end Turns

/-! ### Over the reals -/

/-- Columns' sums of reals as the precondition's array. -/
def sumsOf (w : Fin 8 → Fin 2048 → ℝ) : FVec Ideal S8x1x2048 .f32 := fun z => ((w (z 0) (z 2) : ℝ) : EReal)
def rowSumsOf (w : Fin 8 → Fin 2048 → ℝ) : FVec Ideal S8x2048x1 .f32 := fun z => ((w (z 0) (z 1) : ℝ) : EReal)

theorem sumsOf_at (w : Fin 8 → Fin 2048 → ℝ) (b : Fin 8) (i : Fin 1) (j : Fin 2048) :
    sumsOf w (ix3 b i j) = ((w b j : ℝ) : EReal) := rfl
theorem rowSumsOf_at (w : Fin 8 → Fin 2048 → ℝ) (b : Fin 8) (i : Fin 2048) (j : Fin 1) :
    rowSumsOf w (ix3 b i j) = ((w b i : ℝ) : EReal) := rfl

/-- The floor's literal. -/
def literal : EReal := Ideal.ofBits .f32 0x02081CEA#32

theorem shares_cube (X : Fin 8 → Fin 2048 → Fin 2048 → ℝ) (G : Fin 2048 → Fin 2048 → ℝ) :
    shares (F := Ideal) (cube X) (mat G) = cube (fun b => share (logits (X b) G)) := by
  obtain ⟨m, hm⟩ := rowMax_real (fun b => logits (X b) G)
  have he : entry (F := Ideal) (cube X) (mat G) = cube (fun b => logits (X b) G) := entry_real X G
  rw [shares, he]
  refine (congrArg (fun r => Host.exp (lessRows (F := Ideal) (cube fun b => logits (X b) G) r)) hm).trans ?_
  rw [lessRows_real]
  funext z
  obtain ⟨b, i, j, rfl⟩ : ∃ (b : Fin 8) (i j : Fin 2048), z = ix3 b i j := ⟨_, _, _, eq_ix3 z⟩
  exact congrArg (fun r : ℝ => (r : EReal)) (exp_rowNorm (logits (X b) G) i j)

theorem colSums_cube (p : Fin 8 → Fin 2048 → Fin 2048 → ℝ) :
    colSums (F := Ideal) (cube p) = sumsOf (fun b j => ∑ i, p b i j) := by
  funext z
  obtain ⟨b, i, j, rfl⟩ : ∃ (b : Fin 8) (i : Fin 1) (j : Fin 2048), z = ix3 b i j := ⟨_, _, _, eq_ix3 z⟩
  pointwise [colSums, cube_at, sumsOf_at, sum_coe]

theorem rowSums_cube (p : Fin 8 → Fin 2048 → Fin 2048 → ℝ) :
    rowSums (F := Ideal) (cube p) = rowSumsOf (fun b i => ∑ j, p b i j) := by
  funext z
  obtain ⟨b, i, j, rfl⟩ : ∃ (b : Fin 8) (i : Fin 2048) (j : Fin 1), z = ix3 b i j := ⟨_, _, _, eq_ix3 z⟩
  pointwise [rowSums, cube_at, rowSumsOf_at, sum_coe]

theorem overCols_cube (p : Fin 8 → Fin 2048 → Fin 2048 → ℝ) {w : Fin 8 → Fin 2048 → ℝ} (hw : ∀ b j, w b j ≠ 0) :
    overCols (F := Ideal) (cube p) (sumsOf w) = cube (fun b i j => p b i j * (1 / w b j)) := by
  funext z
  obtain ⟨b, i, j, rfl⟩ : ∃ (b : Fin 8) (i j : Fin 2048), z = ix3 b i j := ⟨_, _, _, eq_ix3 z⟩
  pointwise [overCols, cube_at, sumsOf_at, one_div_coe (hw _ _), ← EReal.coe_mul]

theorem overRows_cube (p : Fin 8 → Fin 2048 → Fin 2048 → ℝ) {w : Fin 8 → Fin 2048 → ℝ} (hw : ∀ b i, w b i ≠ 0) :
    overRows (F := Ideal) (cube p) (rowSumsOf w) = cube (fun b i j => p b i j * (1 / w b i)) := by
  funext z
  obtain ⟨b, i, j, rfl⟩ : ∃ (b : Fin 8) (i j : Fin 2048), z = ix3 b i j := ⟨_, _, _, eq_ix3 z⟩
  pointwise [overRows, cube_at, rowSumsOf_at, one_div_coe (hw _ _), ← EReal.coe_mul]

theorem both_one : ∀ p q : BitVec 1, IntOp.andi p q = 1#1 ↔ p = 1#1 ∧ q = 1#1 := by decide
theorem bit_one : ∀ p : Bool, BitVec.ofBool p = 1#1 ↔ p = true := by decide

/-- A comparison holds at an element where its sum reaches the floor. -/
theorem colsReach_one {w : Fin 8 → Fin 2048 → ℝ} {b : Fin 8} {i j : Fin 2048}
    (h : colsReach (F := Ideal) (sumsOf w) (ix3 b i j) = 1#1) : literal ≤ ((w b j : ℝ) : EReal) := by
  pointwise [colsReach, sumsOf_at, bit_one, decide_eq_true_eq] at h
  exact h

theorem rowsReach_one {w : Fin 8 → Fin 2048 → ℝ} {b : Fin 8} {i j : Fin 2048}
    (h : rowsReach (F := Ideal) (rowSumsOf w) (ix3 b i j) = 1#1) : literal ≤ ((w b i : ℝ) : EReal) := by
  pointwise [rowsReach, rowSumsOf_at, bit_one, decide_eq_true_eq] at h
  exact h

/-- The rows' sums that turn `k` makes. -/
def rowSum (p : Fin 2048 → Fin 2048 → ℝ) (k : ℕ) (i : Fin 2048) : ℝ := ∑ q, p i q * colFactor p k q

section Sums
variable {p : Fin 8 → Fin 2048 → Fin 2048 → ℝ} (hp : ∀ b i j, 0 < p b i j)
include hp

theorem turn_rows (k : ℕ) :
    rowSums (F := Ideal) (overCols (cube p) (sumsOf fun b => colSum (p b) k)) = rowSumsOf (fun b => rowSum (p b) k) := by
  rw [overCols_cube _ (fun b j => (colSum_pos (hp b) k j).ne'), rowSums_cube]
  simp only [← colFactor_eq]
  rfl

theorem turn_cols (k : ℕ) :
    colSums (F := Ideal) (overRows (cube p) (rowSumsOf fun b => rowSum (p b) k)) = sumsOf (fun b => colSum (p b) (k + 1)) := by
  have h : ∀ b i, rowSum (p b) k i ≠ 0 := fun b i =>
    (Finset.sum_pos (fun q _ => mul_pos (hp b i q) (colFactor_pos (hp b) k q)) Finset.univ_nonempty).ne'
  rw [overRows_cube _ h, colSums_cube]
  rfl

/-- After `k` turns the carried sums are the columns' after `k` trips. -/
theorem turns_sums (ok : IVec S8x2048x2048 1) (k : ℕ) :
    ((turn (F := Ideal) (cube p))^[k] (ok, sumsOf fun b => colSum (p b) 0)).2 = sumsOf fun b => colSum (p b) k := by
  induction k with
  | zero => rfl
  | succ k ih => rw [Function.iterate_succ_apply', turn, ih, turn_rows hp, turn_cols hp]

/-- Where `k` turns leave ones, the first flags were ones and every sum on the way reaches the floor. -/
theorem turns_one (ok : IVec S8x2048x2048 1) (z : S8x2048x2048.Idx) (k : ℕ)
    (h : ((turn (F := Ideal) (cube p))^[k] (ok, sumsOf fun b => colSum (p b) 0)).1 z = 1#1) :
    ok z = 1#1 ∧ ∀ t < k, rowsReach (F := Ideal) (rowSumsOf fun b => rowSum (p b) t) z = 1#1
      ∧ colsReach (F := Ideal) (sumsOf fun b => colSum (p b) (t + 1)) z = 1#1 := by
  induction k with
  | zero => exact ⟨h, fun t ht => absurd ht (Nat.not_lt_zero t)⟩
  | succ k ih =>
    rw [Function.iterate_succ_apply', turn, turns_sums hp, turn_rows hp, turn_cols hp] at h
    obtain ⟨h', hc⟩ := (both_one _ _).mp h
    obtain ⟨h'', hr⟩ := (both_one _ _).mp h'
    obtain ⟨h0, hk⟩ := ih h''
    refine ⟨h0, fun t ht => ?_⟩
    rcases Nat.lt_succ_iff_lt_or_eq.mp ht with ht | rfl
    · exact hk t ht
    · exact ⟨hr, hc⟩

end Sums

/-- Flags that turns leave at one were at one before, whatever the arrays hold. -/
theorem turns_flags (q : FVec Ideal S8x2048x2048 .f32) (s : IVec S8x2048x2048 1 × FVec Ideal S8x1x2048 .f32)
    (z : S8x2048x2048.Idx) (k : ℕ) (h : ((turn (F := Ideal) q)^[k] s).1 z = 1#1) : s.1 z = 1#1 := by
  induction k with
  | zero => exact h
  | succ k ih =>
    rw [Function.iterate_succ_apply', turn] at h
    exact ih ((both_one _ _).mp ((both_one _ _).mp h).1).1

/-- The second precondition contains the first. -/
theorem finite_of_unfloored {x : FVec Ideal S8x2048x2048 .f32} {g : FVec Ideal S2048x2048 .f32}
    (h : fn x g = fun _ => 1#1) : Cert.Pre_finite.fn x g = fun _ => 1#1 := by
  funext z
  have hz := congrFun h z
  rw [unfloored_eq] at hz
  exact ((both_one _ _).mp (turns_flags _ _ z 19 hz)).1

/-- On reals it says that every sum the kernel divides by reaches the literal. -/
theorem clears_of_unfloored {X : Fin 8 → Fin 2048 → Fin 2048 → ℝ} {G : Fin 2048 → Fin 2048 → ℝ}
    (h : fn (F := Ideal) (cube X) (mat G) = fun _ => 1#1) (b : Fin 8) :
    Clears literal (share (logits (X b) G)) := by
  have hp : ∀ (b : Fin 8) (i j : Fin 2048), 0 < share (logits (X b) G) i j := fun b => share_pos _
  have hz : ∀ i j : Fin 2048, _ := fun i j => by
    have e := congrFun h (ix3 b i j)
    rw [unfloored_eq, shares_cube, colSums_cube] at e
    exact turns_one hp _ (ix3 b i j) 19 e
  refine ⟨fun j => ?_, fun k hk i => ?_, fun k hk j => ?_⟩
  · exact colsReach_one ((both_one _ _).mp (hz 0 j).1).2
  · exact rowsReach_one ((hz i 0).2 k (by omega)).1
  · exact colsReach_one ((hz 0 j).2 k (by omega)).2

end Cert.Proof.Sinkhorn

end
-- ==== Proof.Floored.lean ====
/-
  The second idealization, which names the scale alone and keeps the literal floor.  It is the first one read with other
  constants, so its run is `run_main` of that reading (`run_floored`); and where `unfloored` holds no sum lies under the
  literal, so it leaves the same answer.
-/
module

public import proofs.«01_k».proof.Proof.Algebraic
public import proofs.«01_k».proof.Proof.Unfloored
public import proofs.«01_k».proof.Proof.Gen.KernelFloored

@[expose] public section

noncomputable section

namespace Cert.Proof.Sinkhorn

open Idealize.ShloMosaic Idealize.ShloMosaic.TcCoe
open Idealize.SL.Sem

/-- The reading that leaves the floor's literal alone: a constant the second idealization names is what it names there, any
other is its word. -/
abbrev floored : Named Ideal where
  named _ name {φ} b := (Cert.KernelFloored.κ name).getD (Ideal.ofBits φ b)

theorem reads_literal : @Reads floored literal := @Reads.mk floored literal rfl rfl

/-- A run of the first idealization's program under some reading of its constants. -/
def Runs [Named Ideal] (m : (ℓ : Loc Cert.KernelIdeal.nD Cert.KernelIdeal.τ Cert.KernelIdeal.sig) → Buf (Elt Ideal) ℓ)
    (g : Dev Cert.KernelIdeal.nD → PrngReg) : Prop :=
  θ_run (Cert.KernelIdeal.defs (F := Ideal)) (onTc (τ := Cert.KernelIdeal.τ) (Cert.KernelIdeal.main (F := Ideal))) ⟨m, fun _ => 0, g⟩ (fun r => (∀ c : Dev Cert.KernelIdeal.nD,
    r.2.mem ((c.tc : Thread Cert.KernelIdeal.nD Cert.KernelIdeal.τ).loc Cert.KernelIdeal.main_v0)
        = result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
    ∧ r.2.sem = fun _ => 0)

theorem runs [Named Ideal] (m) (g) : Runs m g := run_main (F := Ideal) m g

/-- The result under the second idealization's reading. -/
def flooredResult (x : FVec Ideal Cert.KernelIdeal.S8x2048x2048 .f32) (g : FVec Ideal Cert.KernelIdeal.S2048x2048 .f32) :
    FVec Ideal Cert.KernelIdeal.S8x2048x2048 .f32 := @result Ideal _ floored x g

set_option maxRecDepth 65536 in
/-- So read, the first idealization's run is the second's. -/
theorem run_floored_of_runs
    (h : ∀ (m : (ℓ : Loc Cert.KernelIdeal.nD Cert.KernelIdeal.τ Cert.KernelIdeal.sig) → Buf (Elt Ideal) ℓ) (g : Dev Cert.KernelIdeal.nD → PrngReg), @Runs floored m g)
    (m : (ℓ : Loc Cert.KernelFloored.nD Cert.KernelFloored.τ Cert.KernelFloored.sig) → Buf (Elt Ideal) ℓ) (g : Dev Cert.KernelFloored.nD → PrngReg) :
    θ_run (Cert.KernelFloored.defs (F := Ideal)) (onTc (τ := Cert.KernelFloored.τ) (Cert.KernelFloored.main (F := Ideal))) ⟨m, fun _ => 0, g⟩ (fun r => (∀ c : Dev Cert.KernelFloored.nD,
      r.2.mem ((c.tc : Thread Cert.KernelFloored.nD Cert.KernelFloored.τ).loc Cert.KernelFloored.main_v0)
          = flooredResult (m ((c.tc : Thread Cert.KernelFloored.nD Cert.KernelFloored.τ).loc Cert.KernelFloored.main_arg0)) (m ((c.tc : Thread Cert.KernelFloored.nD Cert.KernelFloored.τ).loc Cert.KernelFloored.main_arg1))
        ∧ r.2.mem ((c.tc : Thread Cert.KernelFloored.nD Cert.KernelFloored.τ).loc Cert.KernelFloored.main_arg0) = m ((c.tc : Thread Cert.KernelFloored.nD Cert.KernelFloored.τ).loc Cert.KernelFloored.main_arg0)
        ∧ r.2.mem ((c.tc : Thread Cert.KernelFloored.nD Cert.KernelFloored.τ).loc Cert.KernelFloored.main_arg1) = m ((c.tc : Thread Cert.KernelFloored.nD Cert.KernelFloored.τ).loc Cert.KernelFloored.main_arg1))
      ∧ r.2.sem = fun _ => 0) := h m g

theorem frame_kernelFloored : Cert.quiescent_KernelFloored := fun m g _ =>
  (θ_run _ _ _).mono (fun _ h => ⟨fun c => (h.1 c).2, h.2⟩) (run_floored_of_runs (@runs floored) m g)

/-- The scale is a site of the rule which names a constant. -/
theorem preserves_floored : Cert.preserves_Kernel_KernelFloored :=
  IdealRules.named_const.statement Cert.KernelFloored.κ "scale" .f32 0x4166D4CA#32 _ rfl

theorem algebraic_floored : Cert.algebraic_KernelFloored_ReferenceIdeal_pre_unfloored := by
  intro m g m' g' hpre hargs
  choose X G hx hg using fun c => reals_of_finite (finite_of_unfloored (hpre c))
  refine ⟨fun c => answer (X c) (G c), ?_, ?_⟩
  · refine (θ_run _ _ _).mono (fun r h c => ?_) (run_floored_of_runs (@runs floored) m g)
    obtain ⟨h0, h1⟩ := h.1 c
    have hc : ∀ b, Clears literal (share (logits (X c b) (G c))) :=
      clears_of_unfloored (by rw [← hx c, ← hg c]; exact hpre c)
    exact ⟨h0.trans (by rw [hx c, hg c]; exact @result_answer floored _ reads_literal _ _ hc), h1⟩
  · refine (θ_run _ _ _).mono (fun r h c => ?_) (Cert.ReferenceIdeal.Value.run (F := Ideal) m' g')
    obtain ⟨h0, h1⟩ := h c
    exact ⟨h0.trans (result_real m' ((hargs c).1.trans (hx c)) ((hargs c).2.trans (hg c))), h1⟩

end Cert.Proof.Sinkhorn

end
-- ==== Proof.lean ====
/-
  The certificate: the frames of the printed kernel, of its two idealizations and of the reference; the idealizations'
  sites; and the two value claims, each from its own module.
-/
module

public import proofs.«01_k».proof.Proof.Frames
public import proofs.«01_k».proof.Proof.Algebraic
public import proofs.«01_k».proof.Proof.Floored

@[expose] public section

namespace Cert.Proof

/-- Everything claimed. -/
theorem claim : Cert.Claim :=
  ⟨Cert.Kernel.Gen.facts, Cert.KernelIdeal.Gen.facts, Cert.ReferenceIdeal.Gen.facts, Cert.KernelFloored.Gen.facts,
    Cert.Pre_finite.Gen.facts, Cert.Pre_unfloored.Gen.facts,
    Sinkhorn.frame_kernel, Sinkhorn.frame_kernelIdeal, fun m g _ => Sinkhorn.frame_kernelIdeal m g trivial,
    Sinkhorn.frame_referenceIdeal, fun m g _ => Sinkhorn.frame_referenceIdeal m g trivial,
    fun m g _ => Sinkhorn.frame_referenceIdeal m g trivial,
    Sinkhorn.frame_kernelFloored, fun m g _ => Sinkhorn.frame_kernelFloored m g trivial,
    Sinkhorn.preserves, Sinkhorn.algebraic, Sinkhorn.preserves_floored, Sinkhorn.algebraic_floored⟩

end Cert.Proof

end
